-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 8, 64]⟩ ⟨4, ![2, 128, 64, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 128, 64, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S256x512 : Shape := ⟨2, ![256, 512]⟩
abbrev S2x8x128x64 : Shape := ⟨4, ![2, 8, 128, 64]⟩
abbrev S16x128x64 : Shape := ⟨3, ![16, 128, 64]⟩
abbrev S3x256x512 : Shape := ⟨3, ![3, 256, 512]⟩
abbrev S3 : Shape := ⟨1, ![3]⟩
abbrev S_ : Shape := ⟨0, ![]⟩
abbrev S128x64 : Shape := ⟨2, ![128, 64]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩
abbrev S128x512 : Shape := ⟨2, ![128, 512]⟩
abbrev S1 : Shape := ⟨1, ![1]⟩
abbrev S1x256x512 : Shape := ⟨3, ![1, 256, 512]⟩

abbrev nBuf : Space → Nat
  | .hbm => 12
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x8x64, .bf16⟩
  | .hbm, ⟨3, _⟩ => ⟨S2x128x8x64, .bf16⟩
  | .hbm, ⟨4, _⟩ => ⟨S512x512, .bf16⟩
  | .hbm, ⟨5, _⟩ => ⟨S256x512, .bf16⟩
  | .hbm, ⟨6, _⟩ => ⟨S2x8x128x64, .bf16⟩
  | .hbm, ⟨7, _⟩ => ⟨S16x128x64, .bf16⟩
  | .hbm, ⟨8, _⟩ => ⟨S2x8x128x64, .bf16⟩
  | .hbm, ⟨9, _⟩ => ⟨S16x128x64, .bf16⟩
  | .hbm, ⟨10, _⟩ => ⟨S256x512, .bf16⟩
  | .hbm, ⟨11, _⟩ => ⟨S2x128x512, .bf16⟩
  | .local _ .vmem, ⟨0, _⟩ => ⟨S256x512, .bf16⟩
  | .local _ .vmem, ⟨1, _⟩ => ⟨S512x512, .bf16⟩
  | .local _ .vmem, ⟨2, _⟩ => ⟨S512x512, .bf16⟩
  | .local _ .vmem, ⟨3, _⟩ => ⟨S16x128x64, .bf16⟩
  | .local _ .vmem, ⟨4, _⟩ => ⟨S16x128x64, .bf16⟩
  | .local _ .vmem, ⟨5, _⟩ => ⟨S256x512, .bf16⟩
  | .local _ .vmem, ⟨6, _⟩ => ⟨S3x256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_179 : BitVec 32 := 1#32
  let v347 : BitVec 32 := Scalar.xori v2 c1_i32_179
  let c1_i32_183 : BitVec 32 := 1#32
  let v348 : BitVec 32 := Scalar.muli v347 c1_i32_183
  let v349 : BitVec 32 := Scalar.addi c0_i32_184 v348
  v349.toNat
def k0_dev5 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_207 : BitVec 32 := 3#32
  let v372 : BitVec 32 := Scalar.xori v2 c3_i32_207
  let c1_i32_211 : BitVec 32 := 1#32
  let v373 : BitVec 32 := Scalar.muli v372 c1_i32_211
  let v374 : BitVec 32 := Scalar.addi c0_i32_212 v373
  v374.toNat
def k0_dev6 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_235 : BitVec 32 := 4#32
  let v397 : BitVec 32 := Scalar.xori v2 c4_i32_235
  let c1_i32_238 : BitVec 32 := 1#32
  let v398 : BitVec 32 := Scalar.muli v397 c1_i32_238
  let v399 : BitVec 32 := Scalar.addi c0_i32_239 v398
  v399.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S2x128x64x64 : Shape := ⟨4, ![2, 128, 64, 64]⟩
abbrev S4096x512 : Shape := ⟨2, ![4096, 512]⟩
abbrev S2x128x4096 : Shape := ⟨3, ![2, 128, 4096]⟩
abbrev S_ : Shape := ⟨0, ![]⟩
abbrev S2x64x128x1 : Shape := ⟨4, ![2, 64, 128, 1]⟩
abbrev S2x64x128x128 : Shape := ⟨4, ![2, 64, 128, 128]⟩
abbrev S2x64x128 : Shape := ⟨3, ![2, 64, 128]⟩
abbrev S2x128x64x1 : Shape := ⟨4, ![2, 128, 64, 1]⟩
abbrev S2x64x64x128 : Shape := ⟨4, ![2, 64, 64, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x4096, .bf16⟩
  | .hbm, ⟨2, _⟩ => ⟨S2x128x64x64, .bf16⟩
  | .hbm, ⟨3, _⟩ => ⟨S2x128x64x64, .bf16⟩
  | .hbm, ⟨4, _⟩ => ⟨S4096x512, .bf16⟩
  | .hbm, ⟨5, _⟩ => ⟨S2x128x512, .f32⟩
  | .hbm, ⟨6, _⟩ => ⟨S512x4096, .f32⟩
  | .hbm, ⟨7, _⟩ => ⟨S2x128x64x64, .f32⟩
  | .hbm, ⟨8, _⟩ => ⟨S2x128x64x64, .f32⟩
  | .hbm, ⟨9, _⟩ => ⟨S4096x512, .f32⟩
  | .hbm, ⟨10, _⟩ => ⟨S2x128x4096, .f32⟩
  | .hbm, ⟨11, _⟩ => ⟨S2x128x64x64, .f32⟩
  | .hbm, ⟨12, _⟩ => ⟨S_, .f32⟩
  | .hbm, ⟨13, _⟩ => ⟨S2x128x64x64, .f32⟩
  | .hbm, ⟨14, _⟩ => ⟨S_, .f32⟩
  | .hbm, ⟨15, _⟩ => ⟨S2x64x128x1, .f32⟩
  | .hbm, ⟨16, _⟩ => ⟨S_, .f32⟩
  | .hbm, ⟨17, _⟩ => ⟨S2x64x128x1, .f32⟩
  | .hbm, ⟨18, _⟩ => ⟨S2x64x128x128, .f32⟩
  | .hbm, ⟨19, _⟩ => ⟨S_, .f32⟩
  | .hbm, ⟨20, _⟩ => ⟨S2x64x128x128, .f32⟩
  | .hbm, ⟨21, _⟩ => ⟨S2x64x128x128, .f32⟩
  | .hbm, ⟨22, _⟩ => ⟨S_, .f32⟩
  | .hbm, ⟨23, _⟩ => ⟨S2x64x128, .f32⟩
  | .hbm, ⟨24, _⟩ => ⟨S2x64x128x1, .f32⟩
  | .hbm, ⟨25, _⟩ => ⟨S2x64x128x1, .f32⟩
  | .hbm, ⟨26, _⟩ => ⟨S2x64x128x1, .f32⟩
  | .hbm, ⟨27, _⟩ => ⟨S2x64x128x1, .f32⟩
  | .hbm, ⟨28, _⟩ => ⟨S2x64x128x128, .f32⟩
  | .hbm, ⟨29, _⟩ => ⟨S2x64x128x128, .f32⟩
  | .hbm, ⟨30, _⟩ => ⟨S2x64x128x128, .f32⟩
  | .hbm, ⟨31, _⟩ => ⟨S2x64x128x1, .f32⟩
  | .hbm, ⟨32, _⟩ => ⟨S_, .f32⟩
  | .hbm, ⟨33, _⟩ => ⟨S2x64x128, .f32⟩
  | .hbm, ⟨34, _⟩ => ⟨S2x64x128x1, .f32⟩
  | .hbm, ⟨35, _⟩ => ⟨S2x64x128x1, .f32⟩
  | .hbm, ⟨36, _⟩ => ⟨S2x128x64x1, .f32⟩
  | .hbm, ⟨37, _⟩ => ⟨S2x128x64x64, .f32⟩
  | .hbm, ⟨38, _⟩ => ⟨S2x128x64x64, .f32⟩
  | .hbm, ⟨39, _⟩ => ⟨S2x64x64x128, .f32⟩
  | .hbm, ⟨40, _⟩ => ⟨S2x128x64x64, .f32⟩
  | .hbm, ⟨41, _⟩ => ⟨S2x128x64x64, .f32⟩
  | .hbm, ⟨42, _⟩ => ⟨S2x128x64x1, .f32⟩
  | .hbm, ⟨43, _⟩ => ⟨S2x128x64x64, .f32⟩
  | .hbm, ⟨44, _⟩ => ⟨S2x128x64x64, .f32⟩
  | .hbm, ⟨45, _⟩ => ⟨S2x128x4096, .f32⟩
  | .hbm, ⟨46, _⟩ => ⟨S2x128x512, .f32⟩
  | .hbm, ⟨47, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.Ideal.Contents.lean ====
/-
  What every buffer of the kernel holds, device by device: the attention block a device computes from its own staging
  buffers (`core`), and the three rounds of the all-reduce (`acc0` … `acc3`), each a function of the arrays of ALL devices.
-/
module

public import proofs.«01_k».proof.Proof.Gen.KernelIdeal.Skeleton
public import proofs.«01_k».proof.Proof.Gen.KernelIdeal.Frame

@[expose] public section

noncomputable section

namespace Cert.KernelIdeal.AllReduce

open Idealize.ShloMosaic Idealize.ShloMosaic.TcCoe
open Idealize.SL Idealize.SL.RA
open Cert.KernelIdeal Cert.KernelIdeal.Gen

variable {F : FTy → Type} [FloatOps F]

/-! ## The partners -/

/-- Which bits of a device's number round `r` flips: 1, then 3, then 4. -/
def flip : Fin 3 → ℕ := ![1, 3, 4]

/-- Device `c`'s partner in round `r`. -/
def peer (r : Fin 3) (c : Dev nD) : Dev nD := ⟨(c.val ^^^ flip r) % 8, Nat.mod_lt _ (by decide)⟩

/-- A partner's partner is the device itself. -/
theorem peer_peer (r : Fin 3) (c : Dev nD) : peer r (peer r c) = c := by revert r c; decide

/-- Swapping partners, as a permutation of the devices. -/
def swap (r : Fin 3) : Dev nD ≃ Dev nD := ⟨peer r, peer r, peer_peer r, peer_peer r⟩

/-- The six devices the kernel addresses, by the formulas it computes them with: the three partners, twice. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

/-! ## One device's attention block -/

/-- Block `h` of the key staging buffer's contents, as the kernel loads it. -/
abbrev kRow (k : Vec F S16x128x64 .bf16) (h : ℕ) (inb : ∀ a, (![h, 0, 0] : Fin 3 → ℕ) a + S1x128x64.size a ≤ S16x128x64.size a) :
    Vec F S1x128x64 .bf16 :=
  (Memref.whole cc0_stg3_0).view.readAt (Elt F) (Rect.unit (s := S16x128x64) ![h, 0, 0] S1x128x64.size inb).toLoadRect k

/-- Block `h` of the value staging buffer's contents, as the kernel loads it. -/
abbrev vRow (v : Vec F S16x128x64 .bf16) (h : ℕ) (inb : ∀ a, (![h, 0, 0] : Fin 3 → ℕ) a + S1x128x64.size a ≤ S16x128x64.size a) :
    Vec F S1x128x64 .bf16 :=
  (Memref.whole cc0_stg4_0).view.readAt (Elt F) (Rect.unit (s := S16x128x64) ![h, 0, 0] S1x128x64.size inb).toLoadRect v

/-- What the kernel stores first into the result's staging buffer: the device's own attention block through its rows of
    the output matrix, of the contents of its five staged arguments. -/
def core (x : Vec F S256x512 .bf16) (wq wo : Vec F S512x512 .bf16) (k v : Vec F S16x128x64 .bf16) : Vec F S256x512 .bf16 :=
  let q := k0_pay2 x wq
  let a0 := k0_pay6 (k0_pay3 x wq) (k0_pay4 (kRow k 0 inb_S16x128x64_S1x128x64_0_0_0)) (k0_pay5 (vRow v 0 inb_S16x128x64_S1x128x64_0_0_0))
    (constant S128x128 .f32 0x00000000#32)
  let a1 := k0_pay7 q (kRow k 1 inb_S16x128x64_S1x128x64_1_0_0) (vRow v 1 inb_S16x128x64_S1x128x64_1_0_0)
  let a2 := k0_pay10 (k0_pay8 q) (k0_pay9 (kRow k 2 inb_S16x128x64_S1x128x64_2_0_0)) (vRow v 2 inb_S16x128x64_S1x128x64_2_0_0)
  let a3 := k0_pay11 q (kRow k 3 inb_S16x128x64_S1x128x64_3_0_0) (vRow v 3 inb_S16x128x64_S1x128x64_3_0_0)
  let a4 := k0_pay14 (k0_pay12 q) (k0_pay13 (kRow k 4 inb_S16x128x64_S1x128x64_4_0_0)) (vRow v 4 inb_S16x128x64_S1x128x64_4_0_0)
  let a5 := k0_pay15 q (kRow k 5 inb_S16x128x64_S1x128x64_5_0_0) (vRow v 5 inb_S16x128x64_S1x128x64_5_0_0)
  let lo := k0_pay18 q a0 a1 a2 a3 a4 a5 (k0_pay16 q) (k0_pay17 (kRow k 6 inb_S16x128x64_S1x128x64_6_0_0)) (vRow v 6 inb_S16x128x64_S1x128x64_6_0_0)
    (kRow k 7 inb_S16x128x64_S1x128x64_7_0_0) (vRow v 7 inb_S16x128x64_S1x128x64_7_0_0)
  let a8 := k0_pay20 (k0_pay19 q) (kRow k 8 inb_S16x128x64_S1x128x64_8_0_0) (vRow v 8 inb_S16x128x64_S1x128x64_8_0_0)
  let a9 := k0_pay21 q (kRow k 9 inb_S16x128x64_S1x128x64_9_0_0) (vRow v 9 inb_S16x128x64_S1x128x64_9_0_0)
  let a10 := k0_pay23 (k0_pay22 q) (kRow k 10 inb_S16x128x64_S1x128x64_10_0_0) (vRow v 10 inb_S16x128x64_S1x128x64_10_0_0)
  let a11 := k0_pay24 q (kRow k 11 inb_S16x128x64_S1x128x64_11_0_0) (vRow v 11 inb_S16x128x64_S1x128x64_11_0_0)
  let a12 := k0_pay27 (k0_pay25 q) (k0_pay26 (F := F)) (kRow k 12 inb_S16x128x64_S1x128x64_12_0_0) (vRow v 12 inb_S16x128x64_S1x128x64_12_0_0)
  let a13 := k0_pay28 q (kRow k 13 inb_S16x128x64_S1x128x64_13_0_0) (vRow v 13 inb_S16x128x64_S1x128x64_13_0_0)
  let a14 := k0_pay30 (k0_pay29 q) (kRow k 14 inb_S16x128x64_S1x128x64_14_0_0) (vRow v 14 inb_S16x128x64_S1x128x64_14_0_0)
  let a15 := k0_pay32 q (kRow k 15 inb_S16x128x64_S1x128x64_15_0_0) (vRow v 15 inb_S16x128x64_S1x128x64_15_0_0)
  k0_pay34 lo a8 a9 a10 a11 a12 a13 a14 a15 (k0_pay33 q (kRow k 15 inb_S16x128x64_S1x128x64_15_0_0)) wo

/-! ## The rounds -/

/-- A block as a receive slot holds it: the same block at every slot (only the slot written is ever read). -/
def land (w : Vec F S256x512 .bf16) : Vec F S3x256x512 .bf16 := fun i => w (fun a => i a.succ)

/-- A block as a load of one receive slot yields it: behind a leading dimension of one. -/
def lift (w : Vec F S256x512 .bf16) : Vec F S1x256x512 .bf16 := fun i => w (fun a => i a.succ)

variable (m : (ℓ : Loc nD τ sig) → Buf (Elt F) ℓ)

/-- The five staged arguments of device `c`, as the region finds them. -/
def xA (c : Dev nD) : Vec F S256x512 .bf16 := V m c main_v1
def wqA (c : Dev nD) : Vec F S512x512 .bf16 := V m c main_arg1
def woA (c : Dev nD) : Vec F S512x512 .bf16 := V m c main_arg4
def kA (c : Dev nD) : Vec F S16x128x64 .bf16 := V m c main_v3
def vA (c : Dev nD) : Vec F S16x128x64 .bf16 := V m c main_v5

/-- The result's staging buffer on device `c` before round 0, -/
def acc0 (c : Dev nD) : Vec F S256x512 .bf16 := core (xA m c) (wqA m c) (woA m c) (kA m c) (vA m c)
/-- after round 0, its partner's block added, -/
def acc1 (c : Dev nD) : Vec F S256x512 .bf16 := k0_pay35 (acc0 m c) (lift (acc0 m (peer 0 c)))
/-- after round 1, -/
def acc2 (c : Dev nD) : Vec F S256x512 .bf16 := k0_pay37 (k0_pay36 (acc1 m c)) (lift (acc1 m (peer 1 c)))
/-- and after round 2: the result. -/
def acc3 (c : Dev nD) : Vec F S256x512 .bf16 := k0_pay1 (k0_pay38 (acc2 m c)) (lift (acc2 m (peer 2 c)))

/-- What device `c` sends in round `r`. -/
def sent : Fin 3 → Dev nD → Vec F S256x512 .bf16
  | 0 => acc0 m
  | 1 => acc1 m
  | 2 => acc2 m

/-! ## The receive slots -/

/-- A slot lies inside the receive buffer. -/
theorem slot_inb (r : Fin 3) : ∀ a, (![r.val, 0, 0] : Fin 3 → ℕ) a + S1x256x512.size a ≤ S3x256x512.size a := by
  fin_cases r <;> decide

/-- Receive slot `r`, as the kernel slices and squeezes it. -/
abbrev slotM (r : Fin 3) : Memref sig .tc .vmem S256x512 .bf16 :=
  ((Memref.whole cc0_scratch0).slice (Rect.unit (s := S3x256x512) ![r.val, 0, 0] S1x256x512.size (slot_inb r)) (fun _ => rfl)).squeeze
    S256x512 squeezes_S1x256x512_S256x512

/-- The result's staging buffer. -/
abbrev outM : Memref sig .tc .vmem S256x512 .bf16 := Memref.whole cc0_stg5_0

/-- Slot `r`'s elements are the receive buffer's at first coordinate `r`. -/
theorem mem_slot (r : Fin 3) (y : S3x256x512.Idx) : y ∈ (slotM r).view.set ↔ (y 0).val = r.val := by
  rw [Memref.set_view_squeeze]
  have hs : ((Memref.whole cc0_scratch0).slice (Rect.unit (s := S3x256x512) ![r.val, 0, 0] S1x256x512.size (slot_inb r)) (fun _ => rfl)).view.set
      = (Rect.unit (s := S3x256x512) ![r.val, 0, 0] S1x256x512.size (slot_inb r)).set := View.set_slice_whole ..
  rw [hs, Rect.mem_set_unit]
  have h1 : (y 1).val < 256 := (y 1).isLt
  have h2 : (y 2).val < 512 := (y 2).isLt
  constructor
  · intro H
    have h := H 0
    have h' : r.val ≤ (y 0).val ∧ (y 0).val < r.val + 1 := h
    omega
  · intro H a; fin_cases a
    · show r.val ≤ (y 0).val ∧ (y 0).val < r.val + 1; omega
    · show 0 ≤ (y 1).val ∧ (y 1).val < 0 + 256; omega
    · show 0 ≤ (y 2).val ∧ (y 2).val < 0 + 512; omega

/-- Two slots share no element. -/
theorem slots_disjoint : ∀ r r' : Fin 3, r ≠ r' → Disjoint (slotM r).view.set (slotM r').view.set := by
  intro r r' h
  rw [Finset.disjoint_left]
  intro y hy hy'
  rw [mem_slot] at hy hy'
  exact h (Fin.ext (hy.symm.trans hy'))

/-- Where index `z` of slot `r` sits in the receive buffer: behind `r`. -/
theorem slot_emb (r : Fin 3) (z : S256x512.Idx) :
    (slotM r).view.emb z = (Rect.unit (s := S3x256x512) ![r.val, 0, 0] S1x256x512.size (slot_inb r)).emb (Fin.cons ⟨0, Nat.one_pos⟩ z) := by
  show (((View.whole cc0_scratch0).slice _).reshape S256x512 _).emb z = _
  rw [View.emb_reshape, View.emb_slice, View.emb_whole]
  show (Rect.unit (s := S3x256x512) ![r.val, 0, 0] S1x256x512.size (slot_inb r)).emb (Shape.reshapeEquiv _ z) = _
  rw [Shape.reshapeEquiv_cons_one]

/-- So reading slot `r` off a buffer that holds `w` at every slot gives `w`, -/
theorem land_emb (r : Fin 3) (w : Vec F S256x512 .bf16) (z : S256x512.Idx) : land w ((slotM r).view.emb z) = w z := by
  rw [slot_emb]
  unfold land
  congr 1
  funext a
  apply Fin.ext
  fin_cases a
  · show 0 + 1 * (z 0).val = (z 0).val; omega
  · show 0 + 1 * (z 1).val = (z 1).val; omega

/-- and so does the kernel's load of the slot through the whole buffer. -/
theorem load_land (r : ℕ) (inb : ∀ a, (![r, 0, 0] : Fin 3 → ℕ) a + S1x256x512.size a ≤ S3x256x512.size a) (w : Vec F S256x512 .bf16) :
    (Memref.whole cc0_scratch0).view.readAt (Elt F) (Rect.unit (s := S3x256x512) ![r, 0, 0] S1x256x512.size inb).toLoadRect (land w) = lift w := by
  funext z
  show land w ((Rect.unit (s := S3x256x512) ![r, 0, 0] S1x256x512.size inb).emb z) = lift w z
  unfold land lift
  congr 1
  funext a
  apply Fin.ext
  fin_cases a
  · show 0 + 1 * (z 1).val = (z 1).val; omega
  · show 0 + 1 * (z 2).val = (z 2).val; omega

/-- A slot a block has been written to holds what `land` says. -/
theorem write_slot (r : Fin 3) (fd : Vec F S3x256x512 .bf16) (w : Vec F S256x512 .bf16) :
    ∀ i ∈ (slotM r).view.set, (slotM r).view.write (Elt F) fd w Finset.univ i = land w i := by
  intro i hi
  obtain ⟨z, -, rfl⟩ := Finset.mem_map.mp hi
  rw [land_emb]
  exact View.write_emb_of_mem _ _ (Finset.mem_univ z)

end Cert.KernelIdeal.AllReduce

end
-- ==== Proof.Ideal.Protocol.lean ====
/-
  The protocol of the all-reduce, before any program: the cells (one barrier cell and, per round, one send and one receive
  cell on every device), what each of their duties pays, what a device owes at launch, and in which order it may wait.
-/
module

public import proofs.«01_k».proof.Proof.Ideal.Contents
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.Ring.FamCut

@[expose] public section

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The ghost state: the pipeline's own copy of the rounds algebra, and the all-reduce's, whose duties are numbered by
    rounds. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ) (ρ : Dev nD → PrngReg)

/-! ## Semaphores and cells -/

/-- The barrier semaphore of the launch. -/
abbrev barS : Sem sig := (SemArray.scalar (sig.barrier 0 rfl) : Sems sig S_).sem
/-- Round `r`'s send semaphore, -/
abbrev sS (r : Fin 3) : DmaSem sig := ⟨6 + r.val, by have := r.isLt; show 6 + r.val < 12; omega⟩
/-- and its receive semaphore. -/
abbrev vS (r : Fin 3) : DmaSem sig := ⟨9 + r.val, by have := r.isLt; show 9 + r.val < 12; omega⟩

abbrev barCell (c : Dev nD) : GSem nD τ sig := ((c : Thread nD τ), .reg barS)
abbrev sendCell (c : Dev nD) (r : Fin 3) : GSem nD τ sig := ((c : Thread nD τ), .dma (sS r))
abbrev recvCell (c : Dev nD) (r : Fin 3) : GSem nD τ sig := ((c : Thread nD τ), .dma (vS r))

theorem send_ne_bar (r : Fin 3) : (SemLoc.dma (sS r) : SemLoc sig) ≠ .reg barS := fun h => by cases h
theorem recv_ne_bar (r : Fin 3) : (SemLoc.dma (vS r) : SemLoc sig) ≠ .reg barS := fun h => by cases h
theorem send_ne_recv : ∀ r r' : Fin 3, (SemLoc.dma (sS r) : SemLoc sig) ≠ .dma (vS r') := by decide
theorem send_inj : ∀ r r' : Fin 3, (SemLoc.dma (sS r) : SemLoc sig) = .dma (sS r') → r = r' := by decide
theorem recv_inj : ∀ r r' : Fin 3, (SemLoc.dma (vS r) : SemLoc sig) = .dma (vS r') → r = r' := by decide

/-- The credit of one block's transfer. -/
abbrev N : ℕ := (slotM 0).view.dmaCredit
theorem N_pos : 0 < N := View.dmaCredit_pos _ (by decide)
theorem credit_slot (r : Fin 3) : (slotM r).view.dmaCredit = N := rfl

/-! ## The two kinds of buffer a round moves -/

/-- Device `c`'s receive slot `r`, at `f` on its elements. -/
abbrev slotPts (c : Dev nD) (r : Fin 3) (f : Vec F S3x256x512 .bf16) : sProp 𝕄 :=
  (slotM r).view.loc (c : Thread nD τ) ↦[(slotM r).view.set]{fullShare} f

/-- Device `c`'s result staging buffer at `f`, through the transfer's source view. -/
abbrev outPts (c : Dev nD) (f : Vec F S256x512 .bf16) : sProp 𝕄 :=
  outM.view.loc (c : Thread nD τ) ↦[outM.view.set]{fullShare} f

theorem out_set : outM.view.set = Finset.univ := View.set_whole _

theorem outPts_eq (c : Dev nD) (f : Vec F S256x512 .bf16) :
    outPts c f = ((((c : Thread nD τ).loc cc0_stg5_0) ↦{fullShare} f) : sProp 𝕄) := by
  unfold outPts; rw [out_set]

/-- Two contents that agree on a slot own it alike. -/
theorem slotPts_congr (c : Dev nD) (r : Fin 3) {f g : Vec F S3x256x512 .bf16} (h : ∀ i ∈ (slotM r).view.set, f i = g i) :
    (slotPts c r f : sProp 𝕄) = slotPts c r g := pointsTo_congr h

/-! ## The schedule -/

/-- Paid to `c`'s barrier cell by its round-`d` partner: that partner's receive slot `d`, and that its receive cell is at
    its first round. -/
def barPay (c : Dev nD) (d : Fin 3) : sProp 𝕄 :=
  iprop((∃ f, slotPts (peer d c) d f) ∗ reached ER (recvCell (peer d c) d) 0)
/-- Paid by `c`'s own round-`r` transfer when its source is free again: the result's staging buffer. -/
def sendPay (r : Fin 3) (c : Dev nD) : sProp 𝕄 := outPts c (sent m r c)
/-- Paid by the partner's round-`r` transfer: `c`'s slot `r`, holding what the partner sent. -/
def recvPay (r : Fin 3) (c : Dev nD) : sProp 𝕄 := slotPts c r (land (sent m r (peer r c)))

/-- Every barrier cell has three duties, one unit each; every send and receive cell one, of a block's credit. All in the
    first round; there is no second. -/
def sched : Rounds.Schedule (GSem nD τ sig) (Fin 3) 𝕄 where
  duties g r :=
    if r = 0 ∧ g.1.2 = .tc then
      (if g.2 = .reg barS then Finset.univ
        else if ∃ k : Fin 3, g.2 = .dma (sS k) ∨ g.2 = .dma (vS k) then {0} else ∅)
    else ∅
  unitless _ := False
  amount g _ _ := if g.2 = .reg barS then 1 else N
  payload g _ d :=
    if g.2 = .reg barS then barPay g.1.1 d
    else if g.2 = .dma (sS 0) then sendPay m 0 g.1.1
    else if g.2 = .dma (sS 1) then sendPay m 1 g.1.1
    else if g.2 = .dma (sS 2) then sendPay m 2 g.1.1
    else if g.2 = .dma (vS 0) then recvPay m 0 g.1.1
    else if g.2 = .dma (vS 1) then recvPay m 1 g.1.1
    else if g.2 = .dma (vS 2) then recvPay m 2 g.1.1
    else iprop(emp)
  amount_pos g _ _ _ := by
    by_cases h : g.2 = .reg barS
    · rw [if_pos h]; exact Nat.one_pos
    · rw [if_neg h]; exact N_pos

instance sched_storable (g : GSem nD τ sig) (r : ℕ) (d : Fin 3) :
    BI.Storable (upEmb : UEmb _ 𝕄) ((sched (F := F) m).payload g r d) := by
  show BI.Storable upEmb (if g.2 = .reg barS then barPay g.1.1 d
    else if g.2 = .dma (sS 0) then sendPay m 0 g.1.1
    else if g.2 = .dma (sS 1) then sendPay m 1 g.1.1
    else if g.2 = .dma (sS 2) then sendPay m 2 g.1.1
    else if g.2 = .dma (vS 0) then recvPay m 0 g.1.1
    else if g.2 = .dma (vS 1) then recvPay m 1 g.1.1
    else if g.2 = .dma (vS 2) then recvPay m 2 g.1.1
    else iprop(emp))
  unfold barPay sendPay recvPay
  (repeat' split) <;> infer_instance

section Sched

variable (c : Dev nD) (r : Fin 3)

theorem duties_bar : (sched (F := F) m).duties (barCell c) 0 = Finset.univ := by
  dsimp only [sched]; rw [if_pos ⟨rfl, rfl⟩, if_pos rfl]
theorem duties_send : (sched (F := F) m).duties (sendCell c r) 0 = {0} := by
  dsimp only [sched]; rw [if_pos ⟨rfl, rfl⟩, if_neg (send_ne_bar r), if_pos ⟨r, Or.inl rfl⟩]
theorem duties_recv : (sched (F := F) m).duties (recvCell c r) 0 = {0} := by
  dsimp only [sched]; rw [if_pos ⟨rfl, rfl⟩, if_neg (recv_ne_bar r), if_pos ⟨r, Or.inr rfl⟩]
theorem duties_later (g : GSem nD τ sig) : ∀ k, 0 + 1 ≤ k → (sched (F := F) m).duties g k = ∅ :=
  fun k hk => by dsimp only [sched]; rw [if_neg (fun h => by omega)]

theorem amount_bar (d : Fin 3) : (sched (F := F) m).amount (barCell c) 0 d = 1 := by dsimp only [sched]; exact if_pos rfl
theorem amount_send (d : Fin 3) : (sched (F := F) m).amount (sendCell c r) 0 d = N := by
  dsimp only [sched]; exact if_neg (send_ne_bar r)
theorem amount_recv (d : Fin 3) : (sched (F := F) m).amount (recvCell c r) 0 d = N := by
  dsimp only [sched]; exact if_neg (recv_ne_bar r)

theorem expect_bar : (sched (F := F) m).expect (barCell c) 0 = 3 := by
  unfold Schedule.expect Schedule.amountOf
  rw [duties_bar, Finset.sum_congr rfl fun d _ => amount_bar m c d]; rfl
theorem expect_send : (sched (F := F) m).expect (sendCell c r) 0 = N := by
  unfold Schedule.expect Schedule.amountOf; rw [duties_send, Finset.sum_singleton, amount_send]
theorem expect_recv : (sched (F := F) m).expect (recvCell c r) 0 = N := by
  unfold Schedule.expect Schedule.amountOf; rw [duties_recv, Finset.sum_singleton, amount_recv]

theorem payload_bar (d : Fin 3) : (sched (F := F) m).payload (barCell c) 0 d = barPay c d := by
  dsimp only [sched]; exact if_pos rfl
theorem payload_send (d : Fin 3) : (sched (F := F) m).payload (sendCell c r) 0 d = sendPay m r c := by
  obtain rfl | rfl | rfl : r = 0 ∨ r = 1 ∨ r = 2 := by revert r; decide
  all_goals dsimp only [sched]
  · rw [if_neg (send_ne_bar _), if_pos rfl]
  · rw [if_neg (send_ne_bar _), if_neg (by decide), if_pos rfl]
  · rw [if_neg (send_ne_bar _), if_neg (by decide), if_neg (by decide), if_pos rfl]
theorem payload_recv (d : Fin 3) : (sched (F := F) m).payload (recvCell c r) 0 d = recvPay m r c := by
  obtain rfl | rfl | rfl : r = 0 ∨ r = 1 ∨ r = 2 := by revert r; decide
  all_goals dsimp only [sched]
  · rw [if_neg (recv_ne_bar _), if_neg (by decide), if_neg (by decide), if_neg (by decide), if_pos rfl]
  · rw [if_neg (recv_ne_bar _), if_neg (by decide), if_neg (by decide), if_neg (by decide), if_neg (by decide), if_pos rfl]
  · rw [if_neg (recv_ne_bar _), if_neg (by decide), if_neg (by decide), if_neg (by decide), if_neg (by decide), if_neg (by decide),
      if_pos rfl]

/-- A statement of every round, spelled round by round. -/
abbrev tri (P : Fin 3 → sProp 𝕄) : sProp 𝕄 := iprop(P 0 ∗ P 1 ∗ P 2)

theorem bigSep_tri (P : Fin 3 → sProp 𝕄) : bigSep Finset.univ P = tri P :=
  bigSep_univ_eq_bigSepL [(0 : Fin 3), (1 : Fin 3), (2 : Fin 3)] (by decide) (by decide) P

theorem rest_bar : bigSep ((sched (F := F) m).duties (barCell c) 0 \ ∅) (fun d => (sched (F := F) m).payload (barCell c) 0 d)
    = tri fun d => barPay c d := by
  rw [Finset.sdiff_empty, duties_bar, bigSep_tri]; unfold tri; simp only [payload_bar]
theorem rest_send : bigSep ((sched (F := F) m).duties (sendCell c r) 0 \ ∅) (fun d => (sched (F := F) m).payload (sendCell c r) 0 d)
    = sendPay m r c := by
  rw [Finset.sdiff_empty, duties_send, bigSep_singleton, payload_send]
theorem rest_recv : bigSep ((sched (F := F) m).duties (recvCell c r) 0 \ ∅) (fun d => (sched (F := F) m).payload (recvCell c r) 0 d)
    = recvPay m r c := by
  rw [Finset.sdiff_empty, duties_recv, bigSep_singleton, payload_recv]

end Sched

/-! ## Debts and levels -/

/-- The credit of the round-`r` transfer, owed to the partner's receive cell, -/
def owedR (c : Dev nD) (r : Fin 3) : CellTallies nD τ sig Unit := tallyAt (recvCell (peer r c) r) () N
/-- and the unit of the round-`r` signal, owed to the partner's barrier cell. -/
def owedB (c : Dev nD) (r : Fin 3) : CellTallies nD τ sig Unit := tallyAt (barCell (peer r c)) () 1

/-- What a device owes once it has signalled its three partners, -/
def O₃ (c : Dev nD) : CellTallies nD τ sig Unit := owedR c 2 + owedR c 1 + owedR c 0
/-- and at launch. -/
def O₀ (c : Dev nD) : CellTallies nD τ sig Unit := O₃ c + owedB c 2 + owedB c 1 + owedB c 0

def L (g : GSem nD τ sig) : Finset Unit := if g.1.2 = .tc then {()} else ∅
/-- The barrier cells first, then the receive cells round by round; everything else below them. -/
def lv (g : GSem nD τ sig) (_ : Unit) : ℕ :=
  if g.2 = .reg barS then 1 else if g.2 = .dma (vS 0) then 2 else if g.2 = .dma (vS 1) then 3 else if g.2 = .dma (vS 2) then 4 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; exact if_pos rfl
theorem lv_send (c : Dev nD) (r : Fin 3) : lv (sendCell c r) () = 0 := by
  dsimp only [lv]; rw [if_neg (send_ne_bar r), if_neg (send_ne_recv r 0), if_neg (send_ne_recv r 1), if_neg (send_ne_recv r 2)]
theorem lv_recv (c : Dev nD) (r : Fin 3) : lv (recvCell c r) () = 2 + r.val := by
  obtain rfl | rfl | rfl : r = 0 ∨ r = 1 ∨ r = 2 := by revert r; decide
  all_goals dsimp only [lv]
  · rw [if_neg (recv_ne_bar _), if_pos rfl]; rfl
  · rw [if_neg (recv_ne_bar _), if_neg (by decide), if_pos rfl]; rfl
  · rw [if_neg (recv_ne_bar _), if_neg (by decide), if_neg (by decide), if_pos rfl]; rfl

/-- Debts above a level: everything owed is owed to a TensorCore's cell whose level is more than `n`. -/
def Above (n : ℕ) (O : CellTallies nD τ sig Unit) : Prop := ∀ g u, 0 < O g u → u ∈ L g ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := by
  intro g u hg
  rw [Pi.add_apply, Finsupp.add_apply] at hg
  rcases Nat.add_pos_iff_pos_or_pos.mp hg with hg | hg
  · exact h g u hg
  · exact h' g u hg
theorem Above.tally {n k : ℕ} (c : Dev nD) (sm : SemLoc sig) (h : n < lv ((c : Thread nD τ), sm) ()) :
    Above n (tallyAt ((c : Thread nD τ), sm) () k) := by
  intro g u hg
  rw [tallyAt_apply] at hg
  split at hg
  · next hgu => rw [hgu.1, L_tc]; exact ⟨Finset.mem_singleton_self _, h⟩
  · exact absurd hg (Nat.lt_irrefl 0)
theorem Above.recv {n : ℕ} (c : Dev nD) (r : Fin 3) (h : n < 2 + r.val) : Above n (owedR c r) :=
  Above.tally _ _ (by rw [lv_recv]; exact h)
theorem Above.bar {n : ℕ} (c : Dev nD) (r : Fin 3) (h : n < 1) : Above n (owedB c r) :=
  Above.tally _ _ (by rw [lv_bar]; exact h)

/-- A device may wait on a cell while everything it owes lies above it. -/
theorem mayWait (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => (h g u hg).1)
    (fun p hp => by rw [Finset.mem_singleton.mp hp])
    (fun g u hg => (h g u hg).2)

/-! ## The ghost state -/

/-- A device's own six transfer semaphores, as one family. -/
abbrev osem : Fin 6 → SemLoc sig := ![.dma (sS 0), .dma (sS 1), .dma (sS 2), .dma (vS 0), .dma (vS 1), .dma (vS 2)]

theorem osem_inj : Function.Injective osem := by decide
theorem osem_ne_bar : ∀ k : Fin 6, osem k ≠ .reg barS := by decide

def barEmb : Dev nD ↪ GSem nD τ sig := ⟨fun c => barCell c, fun _ _ h => congrArg (fun g : GSem nD τ sig => g.1.1) h⟩
def scEmb : Dev nD × Fin 6 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells of the mesh, and its transfer cells. -/
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem sc_mem (c : Dev nD) (k : Fin 6) : ((c : Thread nD τ), osem k) ∈ (barCells ∪ scCells : Finset (GSem nD τ sig)) :=
  Finset.mem_union_right _ (Finset.mem_map_of_mem scEmb (Finset.mem_univ (c, k)))
theorem send_mem (c : Dev nD) (r : Fin 3) : sendCell c r ∈ (barCells ∪ scCells : Finset (GSem nD τ sig)) := by
  fin_cases r
  exacts [sc_mem c 0, sc_mem c 1, sc_mem c 2]
theorem recv_mem (c : Dev nD) (r : Fin 3) : recvCell c r ∈ (barCells ∪ scCells : Finset (GSem nD τ sig)) := by
  fin_cases r
  exacts [sc_mem c 3, sc_mem c 4, sc_mem c 5]

/-- What every device may consult: each cell's invariant, under one map of names, and that every barrier cell has reached
    its first round. -/
def records (K : GSem nD τ sig → ℕ) : sProp 𝕄 :=
  iprop((bigSep (barCells ∪ scCells) fun g => cellInv ER (sched m) (K g) g) ∗ bigSep barCells fun g => reached ER g 0)

instance records_persistent (K : GSem nD τ sig → ℕ) : BI.Persistent (records m K) := by unfold records; infer_instance

theorem inv_at (K : GSem nD τ sig → ℕ) {g : GSem nD τ sig} (hg : g ∈ (barCells ∪ scCells : Finset (GSem nD τ sig))) :
    records m K ⊢ (cellInv ER (sched m) (K g) g : sProp 𝕄) := by
  unfold records
  exact sep_elim_left.trans (bigSep_elim hg)
theorem reached_at (K : GSem nD τ sig → ℕ) (c : Dev nD) : records m K ⊢ (reached ER (barCell c) 0 : sProp 𝕄) := by
  unfold records
  exact sep_elim_right.trans (bigSep_elim (Finset.mem_map_of_mem barEmb (Finset.mem_univ c)))

/-- The tokens of the three duties device `c` pays in round `r`: its partner's barrier unit, its own send, its partner's
    receive. -/
def toks (c : Dev nD) (r : Fin 3) : sProp 𝕄 :=
  iprop(dutyTok ER (barCell (peer r c)) 0 r ∗ dutyTok ER (sendCell c r) 0 0 ∗ dutyTok ER (recvCell (peer r c) r) 0 0)
/-- The rights to open a round's two transfer cells, -/
def keys (c : Dev nD) (r : Fin 3) : sProp 𝕄 := iprop(openTok ER (sendCell c r) ∗ openTok ER (recvCell c r))
/-- and the positions on them once they are open. -/
def posn (c : Dev nD) (r : Fin 3) : sProp 𝕄 :=
  iprop(atPos ER (sendCell c r) 0 ∅ 0 ∗ atPos ER (recvCell c r) 0 ∅ 0 ∗ reached ER (sendCell c r) 0 ∗ reached ER (recvCell c r) 0)

/-- What device `c` alone holds from the launch on. -/
def linear (c : Dev nD) : sProp 𝕄 :=
  iprop(atPos ER (barCell c) 0 ∅ 0 ∗ (tri fun r => keys c r) ∗ tri fun r => toks c r)

/-- The credit it waits with. -/
def creds (c : Dev nD) : sProp 𝕄 :=
  iprop(cred (tallyAt (barCell c) () 3) ∗ tri fun r => cred (tallyAt (recvCell c r) () N))

/-- The whole of it before the transfer cells are opened, -/
def ghost (c : Dev nD) : sProp 𝕄 := iprop((∃ K, records m K ∗ linear c) ∗ creds c)
/-- and after. -/
def opened (c : Dev nD) : sProp 𝕄 :=
  iprop((∃ K, records m K ∗ atPos ER (barCell c) 0 ∅ 0 ∗ (tri fun r => posn c r) ∗ tri fun r => toks c r) ∗ creds c)

/-- A cell whose one round is over gives its counter back at zero. -/
theorem close (K : GSem nD τ sig → ℕ) (g : GSem nD τ sig) (hg : g ∈ (barCells ∪ scCells : Finset (GSem nD τ sig))) :
    iprop(records m K ∗ atPos ER g (0 + 1) ∅ 0) ⊢ (|={Set.univ}=> semVal g 0 : sProp 𝕄) :=
  (sep_mono_left (inv_at m K hg)).trans (Rounds.cell_close ER (sched m) (Set.mem_univ (K g)) id (duties_later m g))

end Cert.KernelIdeal.AllReduce

end
-- ==== Proof.Ideal.Heads.lean ====
/-
  The attention heads of the body: parts 2 to 9, each of which loads rows of the key and value staging buffers and returns
  values computed from them, leaving both buffers as they were.
-/
module

public import proofs.«01_k».proof.Proof.Ideal.Protocol

@[expose] public section

set_option maxRecDepth 16384

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

abbrev 𝒱₀ : Variants := Variants.none

/-- Device `c`'s staging buffer `b` at contents `f`, whole. -/
abbrev bufPts (c : Dev nD) (b : Ref sig .tc) (f : b.ty.Contents (Elt F)) : sProp 𝕄 :=
  (((c : Thread nD τ).loc b) ↦{fullShare} f)

/-- Part 2: heads' loads, nothing written. -/
theorem part2 (c : Dev nD) (k v : Vec F S16x128x64 .bf16) (v17 : FVec F S256x512 .f32) (v21 : FVec F S128x64 .bf16) (v23 : FVec F S128x64 .bf16) (v25 : FVec F S128x64 .bf16) (cst_20 : FVec F S128x128 .f32)
    (Kt : (Σ' (v37 : FVec F S128x64 .f32) (v57 : FVec F S128x64 .f32) (v61 : FVec F S128x64 .bf16) (v63 : FVec F S128x64 .bf16), Vec F S1x128x64 .bf16) → sProp 𝕄) :
    iprop(bufPts c cc0_stg3_0 k ∗ bufPts c cc0_stg4_0 v ∗ ((bufPts c cc0_stg3_0 k ∗ bufPts c cc0_stg4_0 v) -∗
        Kt ⟨k0_pay6 v21 v23 v25 cst_20, k0_pay7 v17 (kRow k 1 inb_S16x128x64_S1x128x64_1_0_0) (vRow v 1 inb_S16x128x64_S1x128x64_1_0_0), k0_pay8 v17, k0_pay9 (kRow k 2 inb_S16x128x64_S1x128x64_2_0_0), (vRow v 2 inb_S16x128x64_S1x128x64_2_0_0)⟩))
      ⊢ wp frame (wpE (defs₀ (F := F)) 𝒱₀ (c : Thread nD τ) none) Set.univ
          (k0_part2 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 v17 v21 v23 v25 cst_20) Kt := by
  simp only [k0_part2_eq_skeleton]; unfold k0_part2_skel
  simp only [Prog.lift, Prog.bind_op, Prog.bind_ret, Prog.pure_eq_ret]
  iintro ⟨Hk, Hv, HK⟩
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  rw [wp_ret]; imodintro
  iapply HK
  isplitl [Hk] <;> iassumption

/-- Part 3: heads' loads, nothing written. -/
theorem part3 (c : Dev nD) (k v : Vec F S16x128x64 .bf16) (v17 : FVec F S256x512 .f32) (v61 : FVec F S128x64 .bf16) (v63 : FVec F S128x64 .bf16) (v64 : Vec F S1x128x64 .bf16)
    (Kt : (Σ' (v77 : FVec F S128x64 .f32) (v97 : FVec F S128x64 .f32) (v101 : FVec F S128x64 .bf16), FVec F S128x64 .bf16) → sProp 𝕄) :
    iprop(bufPts c cc0_stg3_0 k ∗ bufPts c cc0_stg4_0 v ∗ ((bufPts c cc0_stg3_0 k ∗ bufPts c cc0_stg4_0 v) -∗
        Kt ⟨k0_pay10 v61 v63 v64, k0_pay11 v17 (kRow k 3 inb_S16x128x64_S1x128x64_3_0_0) (vRow v 3 inb_S16x128x64_S1x128x64_3_0_0), k0_pay12 v17, k0_pay13 (kRow k 4 inb_S16x128x64_S1x128x64_4_0_0)⟩))
      ⊢ wp frame (wpE (defs₀ (F := F)) 𝒱₀ (c : Thread nD τ) none) Set.univ
          (k0_part3 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 v17 v61 v63 v64) Kt := by
  simp only [k0_part3_eq_skeleton]; unfold k0_part3_skel
  simp only [Prog.lift, Prog.bind_op, Prog.bind_ret, Prog.pure_eq_ret]
  iintro ⟨Hk, Hv, HK⟩
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  iapply (wp_load 𝒱₀ (c : Thread nD τ) none Set.univ (m := Memref.whole cc0_stg3_0) (Finset.subset_univ _)) $$ Hk; iintro Hk
  rw [wp_ret]; imodintro
  iapply HK
  isplitl [Hk] <;> iassumption

/-- Part 4: heads' loads, nothing written. -/
theorem part4 (c : Dev nD) (k v : Vec F S16x128x64 .bf16) (v17 : FVec F S256x512 .f32) (v101 : FVec F S128x64 .bf16) (v103 : FVec F S128x64 .bf16)
    (Kt : (Σ' (v117 : FVec F S128x64 .f32) (v137 : FVec F S128x64 .f32) (v141 : FVec F S128x64 .bf16), FVec F S128x64 .bf16) → sProp 𝕄) :
    iprop(bufPts c cc0_stg3_0 k ∗ bufPts c cc0_stg4_0 v ∗ ((bufPts c cc0_stg3_0 k ∗ bufPts c cc0_stg4_0 v) -∗
        Kt ⟨k0_pay14 v101 v103 (vRow v 4 inb_S16x128x64_S1x128x64_4_0_0), k0_pay15 v17 (kRow k 5 inb_S16x128x64_S1x128x64_5_0_0) (vRow v 5 inb_S16x128x64_S1x128x64_5_0_0), k0_pay16 v17, k0_pay17 (kRow k 6 inb_S16x128x64_S1x128x64_6_0_0)⟩))
      ⊢ wp frame (wpE (defs₀ (F := F)) 𝒱₀ (c : Thread nD τ) none) Set.univ
          (k0_part4 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 v17 v101 v103) Kt := by
  simp only [k0_part4_eq_skeleton]; unfold k0_part4_skel
  simp only [Prog.lift, Prog.bind_op, Prog.bind_ret, Prog.pure_eq_ret]
  iintro ⟨Hk, Hv, HK⟩
  iapply (wp_load 𝒱₀ (c : Thread nD τ) none Set.univ (m := Memref.whole cc0_stg4_0) (Finset.subset_univ _)) $$ Hv; iintro Hv
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  iapply (wp_load 𝒱₀ (c : Thread nD τ) none Set.univ (m := Memref.whole cc0_stg3_0) (Finset.subset_univ _)) $$ Hk; iintro Hk
  rw [wp_ret]; imodintro
  iapply HK
  isplitl [Hk] <;> iassumption

/-- Part 5: heads' loads, nothing written. -/
theorem part5 (c : Dev nD) (k v : Vec F S16x128x64 .bf16) (v17 : FVec F S256x512 .f32) (v37 : FVec F S128x64 .f32) (v57 : FVec F S128x64 .f32) (v77 : FVec F S128x64 .f32) (v97 : FVec F S128x64 .f32) (v117 : FVec F S128x64 .f32) (v137 : FVec F S128x64 .f32) (v141 : FVec F S128x64 .bf16) (v143 : FVec F S128x64 .bf16)
    (Kt : (Σ' (v178 : FVec F S128x512 .f32), FVec F S128x64 .bf16) → sProp 𝕄) :
    iprop(bufPts c cc0_stg3_0 k ∗ bufPts c cc0_stg4_0 v ∗ ((bufPts c cc0_stg3_0 k ∗ bufPts c cc0_stg4_0 v) -∗
        Kt ⟨k0_pay18 v17 v37 v57 v77 v97 v117 v137 v141 v143 (vRow v 6 inb_S16x128x64_S1x128x64_6_0_0) (kRow k 7 inb_S16x128x64_S1x128x64_7_0_0) (vRow v 7 inb_S16x128x64_S1x128x64_7_0_0), k0_pay19 v17⟩))
      ⊢ wp frame (wpE (defs₀ (F := F)) 𝒱₀ (c : Thread nD τ) none) Set.univ
          (k0_part5 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 v17 v37 v57 v77 v97 v117 v137 v141 v143) Kt := by
  simp only [k0_part5_eq_skeleton]; unfold k0_part5_skel
  simp only [Prog.lift, Prog.bind_op, Prog.bind_ret, Prog.pure_eq_ret]
  iintro ⟨Hk, Hv, HK⟩
  iapply (wp_load 𝒱₀ (c : Thread nD τ) none Set.univ (m := Memref.whole cc0_stg4_0) (Finset.subset_univ _)) $$ Hv; iintro Hv
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  rw [wp_ret]; imodintro
  iapply HK
  isplitl [Hk] <;> iassumption

/-- Part 6: heads' loads, nothing written. -/
theorem part6 (c : Dev nD) (k v : Vec F S16x128x64 .bf16) (v17 : FVec F S256x512 .f32) (v182 : FVec F S128x64 .bf16)
    (Kt : (Σ' (v198 : FVec F S128x64 .f32) (v218 : FVec F S128x64 .f32), FVec F S128x64 .bf16) → sProp 𝕄) :
    iprop(bufPts c cc0_stg3_0 k ∗ bufPts c cc0_stg4_0 v ∗ ((bufPts c cc0_stg3_0 k ∗ bufPts c cc0_stg4_0 v) -∗
        Kt ⟨k0_pay20 v182 (kRow k 8 inb_S16x128x64_S1x128x64_8_0_0) (vRow v 8 inb_S16x128x64_S1x128x64_8_0_0), k0_pay21 v17 (kRow k 9 inb_S16x128x64_S1x128x64_9_0_0) (vRow v 9 inb_S16x128x64_S1x128x64_9_0_0), k0_pay22 v17⟩))
      ⊢ wp frame (wpE (defs₀ (F := F)) 𝒱₀ (c : Thread nD τ) none) Set.univ
          (k0_part6 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 v17 v182) Kt := by
  simp only [k0_part6_eq_skeleton]; unfold k0_part6_skel
  simp only [Prog.lift, Prog.bind_op, Prog.bind_ret, Prog.pure_eq_ret]
  iintro ⟨Hk, Hv, HK⟩
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  rw [wp_ret]; imodintro
  iapply HK
  isplitl [Hk] <;> iassumption

/-- Part 7: heads' loads, nothing written. -/
theorem part7 (c : Dev nD) (k v : Vec F S16x128x64 .bf16) (v17 : FVec F S256x512 .f32) (v222 : FVec F S128x64 .bf16)
    (Kt : (Σ' (v238 : FVec F S128x64 .f32) (v258 : FVec F S128x64 .f32) (v259 : FVec F S128x64 .f32), FVec F S128x64 .f32) → sProp 𝕄) :
    iprop(bufPts c cc0_stg3_0 k ∗ bufPts c cc0_stg4_0 v ∗ ((bufPts c cc0_stg3_0 k ∗ bufPts c cc0_stg4_0 v) -∗
        Kt ⟨k0_pay23 v222 (kRow k 10 inb_S16x128x64_S1x128x64_10_0_0) (vRow v 10 inb_S16x128x64_S1x128x64_10_0_0), k0_pay24 v17 (kRow k 11 inb_S16x128x64_S1x128x64_11_0_0) (vRow v 11 inb_S16x128x64_S1x128x64_11_0_0), k0_pay25 v17, k0_pay26 (F := F)⟩))
      ⊢ wp frame (wpE (defs₀ (F := F)) 𝒱₀ (c : Thread nD τ) none) Set.univ
          (k0_part7 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 v17 v222) Kt := by
  simp only [k0_part7_eq_skeleton]; unfold k0_part7_skel
  simp only [Prog.lift, Prog.bind_op, Prog.bind_ret, Prog.pure_eq_ret]
  iintro ⟨Hk, Hv, HK⟩
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  rw [wp_ret]; imodintro
  iapply HK
  isplitl [Hk] <;> iassumption

/-- Part 8: heads' loads, nothing written. -/
theorem part8 (c : Dev nD) (k v : Vec F S16x128x64 .bf16) (v17 : FVec F S256x512 .f32) (v259 : FVec F S128x64 .f32) (v260 : FVec F S128x64 .f32)
    (Kt : (Σ' (v278 : FVec F S128x64 .f32) (v298 : FVec F S128x64 .f32), FVec F S128x64 .f32) → sProp 𝕄) :
    iprop(bufPts c cc0_stg3_0 k ∗ bufPts c cc0_stg4_0 v ∗ ((bufPts c cc0_stg3_0 k ∗ bufPts c cc0_stg4_0 v) -∗
        Kt ⟨k0_pay27 v259 v260 (kRow k 12 inb_S16x128x64_S1x128x64_12_0_0) (vRow v 12 inb_S16x128x64_S1x128x64_12_0_0), k0_pay28 v17 (kRow k 13 inb_S16x128x64_S1x128x64_13_0_0) (vRow v 13 inb_S16x128x64_S1x128x64_13_0_0), k0_pay29 v17⟩))
      ⊢ wp frame (wpE (defs₀ (F := F)) 𝒱₀ (c : Thread nD τ) none) Set.univ
          (k0_part8 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 v17 v259 v260) Kt := by
  simp only [k0_part8_eq_skeleton]; unfold k0_part8_skel
  simp only [Prog.lift, Prog.bind_op, Prog.bind_ret, Prog.pure_eq_ret]
  iintro ⟨Hk, Hv, HK⟩
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  rw [wp_ret]; imodintro
  iapply HK
  isplitl [Hk] <;> iassumption

/-- Part 9: heads' loads, nothing written. -/
theorem part9 (c : Dev nD) (k v : Vec F S16x128x64 .bf16) (v17 : FVec F S256x512 .f32) (v299 : FVec F S128x64 .f32)
    (Kt : (Σ' (v318 : FVec F S128x64 .f32) (v336 : FVec F S128x64 .f32), FVec F S128x64 .f32) → sProp 𝕄) :
    iprop(bufPts c cc0_stg3_0 k ∗ bufPts c cc0_stg4_0 v ∗ ((bufPts c cc0_stg3_0 k ∗ bufPts c cc0_stg4_0 v) -∗
        Kt ⟨k0_pay30 v299 (kRow k 14 inb_S16x128x64_S1x128x64_14_0_0) (vRow v 14 inb_S16x128x64_S1x128x64_14_0_0), k0_pay32 v17 (kRow k 15 inb_S16x128x64_S1x128x64_15_0_0) (vRow v 15 inb_S16x128x64_S1x128x64_15_0_0), k0_pay33 v17 (kRow k 15 inb_S16x128x64_S1x128x64_15_0_0)⟩))
      ⊢ wp frame (wpE (defs₀ (F := F)) 𝒱₀ (c : Thread nD τ) none) Set.univ
          (k0_part9 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 v17 v299) Kt := by
  simp only [k0_part9_eq_skeleton]; unfold k0_part9_skel
  simp only [Prog.lift, Prog.bind_op, Prog.bind_ret, Prog.pure_eq_ret]
  iintro ⟨Hk, Hv, HK⟩
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  rw [wp_ret]; imodintro
  iapply HK
  isplitl [Hk] <;> iassumption

end Cert.KernelIdeal.AllReduce

end
-- ==== Proof.Ideal.Round.lean ====
/-
  One round of the all-reduce: the transfer of the result's staging buffer into the partner's slot, the wait for its own
  transfer to have left, and the wait for the partner's block — proved once, for every round and every device.
-/
module

public import proofs.«01_k».proof.Proof.Ideal.Heads

@[expose] public section

set_option maxRecDepth 16384

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- What lands in the partner's slot is what its receive duty asks for: the sender is the partner's partner. -/
theorem landed (c : Dev nD) (r : Fin 3) (fd : Vec F S3x256x512 .bf16) :
    (slotPts (peer r c) r ((slotM r).view.write (Elt F) fd (outM.view.read (Elt F) (sent m r c)) Finset.univ) : sProp 𝕄)
      = recvPay m r (peer r c) := by
  unfold recvPay
  rw [peer_peer]
  exact slotPts_congr _ _ (write_slot r fd (sent m r c))

/-- What a device holds when it starts round `r` but for the result's buffer and its debts. -/
def ready (c : Dev nD) (r : Fin 3) : sProp 𝕄 :=
  iprop(posn c r ∗ (dutyTok ER (sendCell c r) 0 0 ∗ dutyTok ER (recvCell (peer r c) r) 0 0)
    ∗ ((∃ f, slotPts (peer r c) r f) ∗ reached ER (recvCell (peer r c) r) 0) ∗ cred (tallyAt (recvCell c r) () N))

/-- What it holds once the round is over: its two transfer cells' rounds done, and its own slot at the partner's block. -/
def doneR (c : Dev nD) (r : Fin 3) : sProp 𝕄 :=
  iprop((atPos ER (sendCell c r) (0 + 1) ∅ 0 ∗ atPos ER (recvCell c r) (0 + 1) ∅ 0) ∗ slotPts c r (land (sent m r (peer r c))))

/-- The source of a transfer carries the same credit. -/
theorem credit_out : outM.view.dmaCredit = N := rfl

set_option maxHeartbeats 800000 in
/-- The round. -/
theorem round (K : GSem nD τ sig → ℕ) (c n : Dev nD) (r : Fin 3) (hn : n = peer r c) {s v s' v' : DmaSem sig}
    (hs : s = sS r) (hv : v = vS r) (hs' : s' = sS r) (hv' : v' = vS r)
    (O : CellTallies nD τ sig Unit) (hO : Above (2 + r.val) O)
    {hsc : (slotM r).view.ref.isScScratch = false} {hsrc : outM.view.WordExact} {hdst : (slotM r).view.WordExact}
    {hsem : DmaTarget.Typed .vmem (.dma v) (.remote (nD := nD) (τ := τ) (Dev.tc n : Thread nD τ) (slotM r) (.dma s) hsc)}
    {h1 : (slotM r).view.WordExact} {h2 : outM.view.WordExact} {h3 : outM.view.WordExact} {h4 : (slotM r).view.WordExact}
    {α : Type} {k : PUnit → Prog (TpuEff nD τ sig (Elt F) Λ₀ .tc) α} {Q : α → sProp 𝕄} :
    iprop(records m K ∗ levAts L lv ∗ ready c r ∗ outPts c (sent m r c) ∗ ∃ W, owes (c : Thread nD τ) (O + owedR c r) W)
      ⊢ iprop(((doneR m c r ∗ outPts c (sent m r c) ∗ ∃ W, owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma outM (.remote (Dev.tc n : Thread nD τ) (slotM r) (.dma s) hsc) (.dma v) hsrc hdst hsem) fun _ =>
                .op (.waitDma2 s' (slotM r) outM h1 h2) fun _ => .op (.waitDma2 v' outM (slotM r) h3 h4) k) Q) := by
  subst hn hs hv hs' hv'
  unfold ready posn
  iintro ⟨#HR, #Hlev, ⟨⟨HatS, HatV, #HrS, #HrV⟩, ⟨HtS, HtV⟩, ⟨⟨%fn, Hpeer⟩, #HrP⟩, HcV⟩, Hout, ⟨%W, HO⟩⟩ HK
  iapply (Rounds.wp_send_pointsTo 𝒱₀ ER (sched m) (c : Thread nD τ) none (κ₁ := K (sendCell c r)) (κ₂ := K (recvCell (peer r c) r))
    (c' := (peer r c : Thread nD τ)) (src := outM) (dst := slotM r) (sS := .dma (sS r)) (sem := .dma (vS r)) (q := fullShare) (fs := sent m r c)
    (r₁ := 0) (r₂ := 0) (d₁ := 0) (d₂ := 0) (fd := fn)
    (by rw [duties_send]; exact Finset.mem_singleton_self _) (by rw [duties_recv]; exact Finset.mem_singleton_self _)
    () () N rfl (amount_send m c r 0) (amount_recv m (peer r c) r 0) O rfl (W := W)
    (by rw [payload_send]; exact BI.Entails.refl _)
    (by rw [payload_recv]; exact Entails.of_eq (landed m c r fn))) $$ [Hout Hpeer HO HtS HtV]
  · isplitr; · iapply (inv_at m K (send_mem c r)); iexact HR
    isplitr; · iapply (inv_at m K (recv_mem (peer r c) r)); iexact HR
    isplitl [Hout]; · iexact Hout
    isplitl [Hpeer]; · iexact Hpeer
    isplitl [HO]; · iexact HO
    isplitl [HtS]; · iexact HtS
    isplitr; · iexact HrS
    isplitl [HtV]; · iexact HtV
    iexact HrP
  iintro ⟨HcS, HO⟩
  iapply (Rounds.wp_wait_rest_token 𝒱₀ ER (sched m) (c : Thread nD τ) none (κ := K (sendCell c r))
      (wpE_waitDma2_eq 𝒱₀ (c : Thread nD τ) none Set.univ) (Set.mem_univ _) () (O := O) (W := W) (R := 0) (m := 0) (T := ∅)
      (by rw [Nat.zero_add, expect_send])) $$ [HcS HO HatS]
  · isplitr; · iapply (inv_at m K (send_mem c r)); iexact HR
    isplitl [HcS]; · iexact HcS
    isplitl [HO]; · iexact HO
    isplitr
    · iapply (mayWait c (.dma (sS r)) O (fun g u h => ⟨(hO g u h).1, by
        have h' := (hO g u h).2
        rw [show lv ((c : Thread nD τ), .dma (sS r)) () = 0 from lv_send c r]; omega⟩)); iexact Hlev
    iexact HatS
  iintro ⟨HO, HatS, -, Hpay⟩
  ihave Hout := (Entails.of_eq (rest_send m c r)) $$ Hpay
  iapply (Rounds.wp_wait_rest_token 𝒱₀ ER (sched m) (c : Thread nD τ) none (κ := K (recvCell c r))
      (wpE_waitDma2_eq 𝒱₀ (c : Thread nD τ) none Set.univ) (Set.mem_univ _) () (O := O) (W := insert (SemLoc.dma (sS r), ()) W)
      (R := 0) (m := 0) (T := ∅) (by rw [Nat.zero_add, expect_recv])) $$ [HcV HO HatV]
  · isplitr; · iapply (inv_at m K (recv_mem c r)); iexact HR
    isplitl [HcV]; · iexact HcV
    isplitl [HO]; · iexact HO
    isplitr
    · iapply (mayWait c (.dma (vS r)) O (fun g u h => ⟨(hO g u h).1, by
        rw [show lv ((c : Thread nD τ), .dma (vS r)) () = 2 + r.val from lv_recv c r]; exact (hO g u h).2⟩)); iexact Hlev
    iexact HatV
  iintro ⟨HO, HatV, -, Hpay⟩
  ihave Hslot := (Entails.of_eq (rest_recv m c r)) $$ Hpay
  unfold sendPay recvPay
  iapply HK
  unfold doneR
  isplitl [HatS HatV Hslot]
  · isplitl [HatS HatV]; · isplitl [HatS] <;> iassumption
    iexact Hslot
  isplitl [Hout]; · iexact Hout
  iexists _; iexact HO

end Cert.KernelIdeal.AllReduce

end
-- ==== Proof.Ideal.Body.lean ====
/-
  The body of the kernel, executed once at an arbitrary device, and the pipeline's proof data it fits.
-/
module

public import proofs.«01_k».proof.Proof.Ideal.Round

@[expose] public section

set_option maxRecDepth 16384

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Each window's one block is its whole array -/

theorem blk0 (c : Dev nD) : iblk m c 0 t0_0 = xA m c := by
  funext j
  show V m c main_v1 (((cfg0.win 0).blk t0_0).view.emb j) = V m c main_v1 j
  congr 1; funext a; apply Fin.ext; fin_cases a
  · show 0 + 1 * (j 0).val = (j 0).val; omega
  · show 0 + 1 * (j 1).val = (j 1).val; omega
theorem blk1 (c : Dev nD) : iblk m c 1 t0_0 = wqA m c := by
  funext j
  show V m c main_arg1 (((cfg0.win 1).blk t0_0).view.emb j) = V m c main_arg1 j
  congr 1; funext a; apply Fin.ext; fin_cases a
  · show 0 + 1 * (j 0).val = (j 0).val; omega
  · show 0 + 1 * (j 1).val = (j 1).val; omega
theorem blk2 (c : Dev nD) : iblk m c 2 t0_0 = woA m c := by
  funext j
  show V m c main_arg4 (((cfg0.win 2).blk t0_0).view.emb j) = V m c main_arg4 j
  congr 1; funext a; apply Fin.ext; fin_cases a
  · show 0 + 1 * (j 0).val = (j 0).val; omega
  · show 0 + 1 * (j 1).val = (j 1).val; omega
theorem blk3 (c : Dev nD) : iblk m c 3 t0_0 = kA m c := by
  funext j
  show V m c main_v3 (((cfg0.win 3).blk t0_0).view.emb j) = V m c main_v3 j
  congr 1; funext a; apply Fin.ext; fin_cases a
  · show 0 + 1 * (j 0).val = (j 0).val; omega
  · show 0 + 1 * (j 1).val = (j 1).val; omega
  · show 0 + 1 * (j 2).val = (j 2).val; omega
theorem blk4 (c : Dev nD) : iblk m c 4 t0_0 = vA m c := by
  funext j
  show V m c main_v5 (((cfg0.win 4).blk t0_0).view.emb j) = V m c main_v5 j
  congr 1; funext a; apply Fin.ext; fin_cases a
  · show 0 + 1 * (j 0).val = (j 0).val; omega
  · show 0 + 1 * (j 1).val = (j 1).val; omega
  · show 0 + 1 * (j 2).val = (j 2).val; omega

/-! ## The proof data -/

/-- The receive buffer, whole, at contents not chosen. -/
def scratchAny (c : Dev nD) : sProp 𝕄 := iprop(∃ f : Buf (Elt F) ((c : Thread nD τ).loc cc0_scratch0), ((c : Thread nD τ).loc cc0_scratch0) ↦{fullShare} f)

/-- The device's six transfer counters at zero. -/
def zeros (c : Dev nD) : sProp 𝕄 := iprop((tri fun r => semVal (sendCell c r) 0) ∗ tri fun r => semVal (recvCell c r) 0)

/-- What the body starts from beside its windows, -/
def Φ₀ (c : Dev nD) : sProp 𝕄 := iprop((opened m c ∗ levAts L lv) ∗ scratchAny c ∗ ∃ ρ, prngReg c ρ)
/-- and what it leaves. -/
def Φ₁ (c : Dev nD) : sProp 𝕄 := iprop((semVal (barCell c) 0 ∗ zeros c) ∗ scratchAny c ∗ ∃ ρ, prngReg c ρ)

/-- The region: five arrays read, the sixth left at the all-reduced sum; three barrier units and three blocks' credit
    owed before the one point, nothing after. -/
def dat (c : Dev nD) : Dat τ (Elt F) Unit ℕ UU ℕ cfg0 c where
  A w := V m c (Pipeline.arrRef spec0 w)
  after w _ := match w with
    | ⟨0, _⟩ => xA m c
    | ⟨1, _⟩ => wqA m c
    | ⟨2, _⟩ => woA m c
    | ⟨3, _⟩ => kA m c
    | ⟨4, _⟩ => vA m c
    | ⟨5, _⟩ => acc3 m c
    | ⟨_ + 6, h⟩ => absurd h (Nat.not_lt.2 (Nat.le_add_left _ _))
  Φ t := if t.val = 0 then Φ₀ m c else Φ₁ c
  q _ := fullShare
  owed t := if t.val = 0 then O₀ c else 0

theorem share_eq (c : Dev nD) (w : Fin cfg0.W) : (dat m c).share w = fullShare := by unfold Dat.share; split <;> rfl

theorem before0 (c : Dev nD) (d) : (dat m c).before 0 t0_0 d = xA m c := by
  unfold Dat.before; rw [if_pos (fetch0_0 t0_0)]; exact blk0 m c
theorem before1 (c : Dev nD) (d) : (dat m c).before 1 t0_0 d = wqA m c := by
  unfold Dat.before; rw [if_pos (fetch0_1 t0_0)]; exact blk1 m c
theorem before2 (c : Dev nD) (d) : (dat m c).before 2 t0_0 d = woA m c := by
  unfold Dat.before; rw [if_pos (fetch0_2 t0_0)]; exact blk2 m c
theorem before3 (c : Dev nD) (d) : (dat m c).before 3 t0_0 d = kA m c := by
  unfold Dat.before; rw [if_pos (fetch0_3 t0_0)]; exact blk3 m c
theorem before4 (c : Dev nD) (d) : (dat m c).before 4 t0_0 d = vA m c := by
  unfold Dat.before; rw [if_pos (fetch0_4 t0_0)]; exact blk4 m c

/-! ## The signals and the first part -/

/-- A device signals its round-`r` partner's barrier cell: it hands over its own slot `r`, and that its receive cell is at
    its first round. -/
theorem signal (K : GSem nD τ sig → ℕ) (c n : Dev nD) (r : Fin 3) (hn : n = peer r c) {k' : ℕ} (hk : k' = 1)
    (O : CellTallies nD τ sig Unit) {α : Type} {k : PUnit → Prog (TpuEff nD τ sig (Elt F) Λ₀ .tc) α} {Q : α → sProp 𝕄} :
    iprop(records m K ∗ dutyTok ER (barCell (peer r c)) 0 r ∗ (∃ f, slotPts c r f) ∗ reached ER (recvCell c r) 0
        ∗ ∃ W, owes (c : Thread nD τ) (O + owedB c r) W)
      ⊢ iprop(((∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk
  iintro ⟨#HR, Ht, Hs, #Hr, ⟨%W, HO⟩⟩ HK
  iapply (Rounds.wp_signal 𝒱₀ ER (sched m) (c : Thread nD τ) none (dst := (peer r c : Thread nD τ)) (κ := K (barCell (peer r c)))
      (r := 0) (d := r) (by rw [duties_bar]; exact Finset.mem_univ _) (amount_bar m (peer r c) r) () O rfl) $$ [HO Ht Hs]
  · isplitr; · iapply (inv_at m K (bar_mem (peer r c))); iexact HR
    isplitl [HO]; · iexact HO
    isplitl [Ht]; · iexact Ht
    isplitl [Hs]
    · rw [payload_bar]; unfold barPay; rw [peer_peer]
      isplitl [Hs]; · iexact Hs
      iexact Hr
    · iapply (reached_at m K (peer r c)); iexact HR
  iintro HO
  iapply HK
  iexists W; iexact HO

/-- What a device holds when the kernel starts, but for the arguments' buffers. -/
def pre1 (K : GSem nD τ sig → ℕ) (c : Dev nD) : sProp 𝕄 :=
  iprop(records m K ∗ levAts L lv ∗ atPos ER (barCell c) 0 ∅ 0 ∗ cred (tallyAt (barCell c) () 3)
    ∗ (tri fun r => dutyTok ER (barCell (peer r c)) 0 r) ∗ (tri fun r => iprop(∃ f, slotPts c r f))
    ∗ (tri fun r => reached ER (recvCell c r) 0) ∗ ∃ W, owes (c : Thread nD τ) (O₀ c) W)

/-- What it holds once its partners have signalled: their slots. -/
def post1 (c : Dev nD) : sProp 𝕄 :=
  iprop(atPos ER (barCell c) (0 + 1) ∅ 0 ∗ (tri fun r => barPay c r) ∗ ∃ W, owes (c : Thread nD τ) (O₃ c) W)

/-- What a device owes after its signals lies above its barrier cell. -/
theorem above_O₃ (c : Dev nD) : Above 1 (O₃ c) :=
  ((Above.recv c 2 (by decide)).add (Above.recv c 1 (by decide))).add (Above.recv c 0 (by decide))

theorem read_x (hz : (![0, 0] : Fin 2 → ℕ) = fun _ => 0) (f : Vec F S256x512 .bf16) :
    (Memref.whole cc0_stg0_0).view.readAt (Elt F) (Rect.unit (s := S256x512) ![0, 0] S256x512.size inb_S256x512_S256x512_0_0).toLoadRect f = f :=
  Memref.readAt_unit_zero (Elt F) cc0_stg0_0 hz _ f
theorem read_wq (hz : (![0, 0] : Fin 2 → ℕ) = fun _ => 0) (f : Vec F S512x512 .bf16) :
    (Memref.whole cc0_stg1_0).view.readAt (Elt F) (Rect.unit (s := S512x512) ![0, 0] S512x512.size inb_S512x512_S512x512_0_0).toLoadRect f = f :=
  Memref.readAt_unit_zero (Elt F) cc0_stg1_0 hz _ f
theorem read_wo (hz : (![0, 0] : Fin 2 → ℕ) = fun _ => 0) (f : Vec F S512x512 .bf16) :
    (Memref.whole cc0_stg2_0).view.readAt (Elt F) (Rect.unit (s := S512x512) ![0, 0] S512x512.size inb_S512x512_S512x512_0_0).toLoadRect f = f :=
  Memref.readAt_unit_zero (Elt F) cc0_stg2_0 hz _ f
theorem read_out (hz : (![0, 0] : Fin 2 → ℕ) = fun _ => 0) (f : Vec F S256x512 .bf16) :
    (Memref.whole cc0_stg5_0).view.readAt (Elt F) (Rect.unit (s := S256x512) ![0, 0] S256x512.size inb_S256x512_S256x512_0_0).toLoadRect f = f :=
  Memref.readAt_unit_zero (Elt F) cc0_stg5_0 hz _ f
theorem write_out (hz : (![0, 0] : Fin 2 → ℕ) = fun _ => 0) (f w : Vec F S256x512 .bf16) :
    ((Memref.whole cc0_stg5_0).access (Rect.unit (s := S256x512) ![0, 0] S256x512.size inb_S256x512_S256x512_0_0)).write (Elt F) f w Finset.univ = w :=
  Memref.write_access_unit_zero_univ (Elt F) cc0_stg5_0 hz _ f w

theorem zeros2 : (![0, 0] : Fin 2 → ℕ) = fun _ => 0 := funext fun a => by fin_cases a <;> rfl

set_option maxHeartbeats 800000 in
/-- Part 1: three signals, the barrier wait, and the loads of the projection and of head 0. -/
theorem part1 (K : GSem nD τ sig → ℕ) (c : Dev nD) (x : Vec F S256x512 .bf16) (wq : Vec F S512x512 .bf16) (k v : Vec F S16x128x64 .bf16)
    (Kt : (Σ' (d0 : Dev nD) (v2 : BitVec 32) (v17 : FVec F S256x512 .f32) (v21 : FVec F S128x64 .bf16) (v23 : FVec F S128x64 .bf16) (v25 : FVec F S128x64 .bf16), FVec F S128x128 .f32) → sProp 𝕄) :
    iprop(pre1 m K c ∗ bufPts c cc0_stg0_0 x ∗ bufPts c cc0_stg1_0 wq ∗ bufPts c cc0_stg3_0 k ∗ bufPts c cc0_stg4_0 v
        ∗ ((post1 c ∗ bufPts c cc0_stg0_0 x ∗ bufPts c cc0_stg1_0 wq ∗ bufPts c cc0_stg3_0 k ∗ bufPts c cc0_stg4_0 v) -∗
          Kt ⟨c, Scalar.remsi (Scalar.divsi (Dev.word c) 1#32) 8#32, k0_pay2 x wq, k0_pay3 x wq,
            k0_pay4 (kRow k 0 inb_S16x128x64_S1x128x64_0_0_0), k0_pay5 (vRow v 0 inb_S16x128x64_S1x128x64_0_0_0), constant S128x128 .f32 0x00000000#32⟩))
      ⊢ wp frame (wpE (defs₀ (F := F)) 𝒱₀ (c : Thread nD τ) none) Set.univ
          (k0_part1 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2) Kt := by
  simp only [k0_part1_eq_skeleton]; unfold k0_part1_skel
  simp only [semSignalWord, semWaitWord, Prog.lift, Prog.bind_op, Prog.bind_ret, Prog.pure_eq_ret, wp_deviceId]
  unfold pre1
  iintro ⟨⟨#HR, #Hlev, HatB, HcB, ⟨Ht0, Ht1, Ht2⟩, ⟨Hs0, Hs1, Hs2⟩, ⟨#Hr0, #Hr1, #Hr2⟩, HO⟩, Hx, Hwq, Hk, Hv, HK⟩
  unfold O₀
  iapply (signal m K c _ 0 (dev1_eq c) rfl (O₃ c + owedB c 2 + owedB c 1)) $$ [Ht0 Hs0 HO]
  · isplitr; · iexact HR
    isplitl [Ht0]; · iexact Ht0
    isplitl [Hs0]; · iexact Hs0
    isplitr; · iexact Hr0
    iexact HO
  iintro HO
  iapply (signal m K c _ 1 (dev2_eq c) rfl (O₃ c + owedB c 2)) $$ [Ht1 Hs1 HO]
  · isplitr; · iexact HR
    isplitl [Ht1]; · iexact Ht1
    isplitl [Hs1]; · iexact Hs1
    isplitr; · iexact Hr1
    iexact HO
  iintro HO
  iapply (signal m K c _ 2 (dev3_eq c) rfl (O₃ c)) $$ [Ht2 Hs2 HO]
  · isplitr; · iexact HR
    isplitl [Ht2]; · iexact Ht2
    isplitl [Hs2]; · iexact Hs2
    isplitr; · iexact Hr2
    iexact HO
  iintro ⟨%W, HO⟩
  iapply (Rounds.wp_wait_rest_token 𝒱₀ ER (sched m) (c : Thread nD τ) none (κ := K (barCell c))
      (wpE_semWait_eq 𝒱₀ (c : Thread nD τ) none Set.univ) (Set.mem_univ _) () (O := O₃ c) (W := W) (R := 0) (m := 0) (T := ∅)
      (by rw [expect_bar]; decide)) $$ [HcB HO HatB]
  · isplitr; · iapply (inv_at m K (bar_mem c)); iexact HR
    isplitl [HcB]; · iexact HcB
    isplitl [HO]; · iexact HO
    isplitr
    · iapply (mayWait c (.reg barS) (O₃ c) (by rw [show lv ((c : Thread nD τ), .reg barS) () = 1 from lv_bar c]; exact above_O₃ c)); iexact Hlev
    iexact HatB
  iintro ⟨HO, HatB, -, Hpay⟩
  ihave Hp := (Entails.of_eq (rest_bar m c)) $$ Hpay
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hwq; iintro Hwq
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  rw [read_x zeros2, read_wq zeros2, wp_ret]; imodintro
  iapply HK
  unfold post1
  isplitl [HatB Hp HO]
  · isplitl [HatB]; · iexact HatB
    isplitl [Hp]; · iexact Hp
    iexists _; iexact HO
  isplitl [Hx]; · iexact Hx
  isplitl [Hwq]; · iexact Hwq
  isplitl [Hk] <;> iassumption

/-! ## The three rounds -/

set_option maxHeartbeats 800000 in
/-- Part 10: the device's own block through its rows of the output matrix is stored, and round 0 exchanges it. -/
theorem part10 (K : GSem nD τ sig → ℕ) (c : Dev nD) (v2 : BitVec 32) (wo : Vec F S512x512 .bf16) (f : Vec F S256x512 .bf16)
    (v178 : FVec F S128x512 .f32) (v198 v218 v238 v258 v278 v298 v318 v336 v337 : FVec F S128x64 .f32)
    (hout : k0_pay34 v178 v198 v218 v238 v258 v278 v298 v318 v336 v337 wo = acc0 m c) (Kt : PUnit → sProp 𝕄) :
    iprop((records m K ∗ levAts L lv ∗ ready c 0 ∗ ∃ W, owes (c : Thread nD τ) (O₃ c) W) ∗ bufPts c cc0_stg2_0 wo ∗ bufPts c cc0_stg5_0 f
        ∗ ((doneR m c 0 ∗ (∃ W, owes (c : Thread nD τ) (owedR c 2 + owedR c 1) W) ∗ bufPts c cc0_stg2_0 wo ∗ bufPts c cc0_stg5_0 (acc0 m c)) -∗ Kt ⟨⟩))
      ⊢ wp frame (wpE (defs₀ (F := F)) 𝒱₀ (c : Thread nD τ) none) Set.univ
          (k0_part10 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 c v2
            v178 v198 v218 v238 v258 v278 v298 v318 v336 v337) Kt := by
  simp only [k0_part10_eq_skeleton]; unfold k0_part10_skel
  simp only [Prog.lift, Prog.bind_op, Prog.bind_ret, Prog.pure_eq_ret]
  iintro ⟨⟨#HR, #Hlev, Hrd, HO⟩, Hwo, Hf, HK⟩
  iapply (wp_load 𝒱₀ (c : Thread nD τ) none Set.univ (m := Memref.whole cc0_stg2_0) (Finset.subset_univ _)) $$ Hwo; iintro Hwo
  rw [read_wo zeros2]
  iapply (wp_load 𝒱₀ (c : Thread nD τ) none Set.univ (m := Memref.whole cc0_stg5_0) (Finset.subset_univ _)) $$ Hf; iintro Hf
  iapply (wp_store 𝒱₀ (c : Thread nD τ) none Set.univ (m := Memref.whole cc0_stg5_0)
    (r := Rect.unit (s := S256x512) ![0, 0] S256x512.size inb_S256x512_S256x512_0_0) (Mk := Finset.univ) (Finset.subset_univ _)) $$ Hf; iintro Hf
  rw [write_out zeros2, hout]
  unfold O₃
  iapply (round m K c _ 0 (dev4_eq c) rfl rfl rfl rfl (owedR c 2 + owedR c 1)
    ((Above.recv c 2 (by decide)).add (Above.recv c 1 (by decide)))) $$ [Hrd HO Hf]
  · isplitr; · iexact HR
    isplitr; · iexact Hlev
    isplitl [Hrd]; · iexact Hrd
    isplitl [Hf]; · iapply (Entails.of_eq (outPts_eq c (acc0 m c)).symm); iexact Hf
    iexact HO
  iintro ⟨Hd, Hf, HO⟩
  ihave Hf := (Entails.of_eq (outPts_eq c (sent m 0 c))) $$ Hf
  rw [show sent m 0 c = acc0 m c from rfl, wp_ret]; imodintro
  iapply HK
  isplitl [Hd]; · iexact Hd
  isplitl [HO]; · iexact HO
  isplitl [Hwo] <;> iassumption

/-- The elements a load of slot `r` reads are the slot's. -/
theorem load_slot_sub (r : Fin 3) (o : ℕ) (ho : o = r.val) (inb : ∀ a, (![o, 0, 0] : Fin 3 → ℕ) a + S1x256x512.size a ≤ S3x256x512.size a) :
    (Memref.whole cc0_scratch0).view.setOn (Rect.unit (s := S3x256x512) ![o, 0, 0] S1x256x512.size inb).toLoadRect.set ⊆ (slotM r).view.set := by
  subst ho
  intro y hy
  rw [mem_slot]
  obtain ⟨z, hz, rfl⟩ := Finset.mem_map.mp hy
  have h := (Rect.mem_set_unit.mp (by simpa using hz)) 0
  have h' : r.val ≤ (z 0).val ∧ (z 0).val < r.val + 1 := h
  show (z 0).val = r.val
  omega

set_option maxHeartbeats 800000 in
/-- Part 11: the partner's block is added, and round 1 exchanges the sum. -/
theorem part11 (K : GSem nD τ sig → ℕ) (c : Dev nD) (v2 : BitVec 32) (Kt : FVec F S256x512 .bf16 → sProp 𝕄) :
    iprop((records m K ∗ levAts L lv ∗ ready c 1 ∗ ∃ W, owes (c : Thread nD τ) (owedR c 2 + owedR c 1) W)
        ∗ slotPts c 0 (land (sent m 0 (peer 0 c))) ∗ bufPts c cc0_stg5_0 (acc0 m c)
        ∗ ((doneR m c 1 ∗ (∃ W, owes (c : Thread nD τ) (owedR c 2) W) ∗ slotPts c 0 (land (sent m 0 (peer 0 c))) ∗ bufPts c cc0_stg5_0 (acc1 m c))
          -∗ Kt (k0_pay36 (acc1 m c))))
      ⊢ wp frame (wpE (defs₀ (F := F)) 𝒱₀ (c : Thread nD τ) none) Set.univ
          (k0_part11 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 c v2) Kt := by
  simp only [k0_part11_eq_skeleton]; unfold k0_part11_skel
  simp only [Prog.lift, Prog.bind_op, Prog.bind_ret, Prog.pure_eq_ret]
  iintro ⟨⟨#HR, #Hlev, Hrd, HO⟩, Hs, Hf, HK⟩
  iapply (wp_load 𝒱₀ (c : Thread nD τ) none Set.univ (m := Memref.whole cc0_stg5_0) (Finset.subset_univ _)) $$ Hf; iintro Hf
  rw [read_out zeros2]
  iapply (wp_load 𝒱₀ (c : Thread nD τ) none Set.univ (m := Memref.whole cc0_scratch0) (load_slot_sub 0 0 rfl _)) $$ Hs; iintro Hs
  rw [load_land 0]
  iapply (wp_load 𝒱₀ (c : Thread nD τ) none Set.univ (m := Memref.whole cc0_stg5_0) (Finset.subset_univ _)) $$ Hf; iintro Hf
  iapply (wp_store 𝒱₀ (c : Thread nD τ) none Set.univ (m := Memref.whole cc0_stg5_0)
    (r := Rect.unit (s := S256x512) ![0, 0] S256x512.size inb_S256x512_S256x512_0_0) (Mk := Finset.univ) (Finset.subset_univ _)) $$ Hf; iintro Hf
  rw [write_out zeros2, show k0_pay35 (acc0 m c) (lift (sent m 0 (peer 0 c))) = acc1 m c from rfl]
  iapply (round m K c _ 1 (dev5_eq c) rfl rfl rfl rfl (owedR c 2) (Above.recv c 2 (by decide))) $$ [Hrd HO Hf]
  · isplitr; · iexact HR
    isplitr; · iexact Hlev
    isplitl [Hrd]; · iexact Hrd
    isplitl [Hf]; · iapply (Entails.of_eq (outPts_eq c (acc1 m c)).symm); iexact Hf
    iexact HO
  iintro ⟨Hd, Hf, HO⟩
  ihave Hf := (Entails.of_eq (outPts_eq c (sent m 1 c))) $$ Hf
  iapply (wp_load 𝒱₀ (c : Thread nD τ) none Set.univ (m := Memref.whole cc0_stg5_0) (Finset.subset_univ _)) $$ Hf; iintro Hf
  rw [read_out zeros2, show sent m 1 c = acc1 m c from rfl, wp_ret]; imodintro
  iapply HK
  isplitl [Hd]; · iexact Hd
  isplitl [HO]; · iexact HO
  isplitl [Hs] <;> iassumption

set_option maxHeartbeats 800000 in
/-- Part 12: the second partner's block is added, and round 2 exchanges the sum. -/
theorem part12 (K : GSem nD τ sig → ℕ) (c : Dev nD) (v2 : BitVec 32)
    (Kt : (Σ' (v417 : FVec F S256x512 .bf16), Vec F S1x256x512 .bf16) → sProp 𝕄) :
    iprop((records m K ∗ levAts L lv ∗ ready c 2 ∗ ∃ W, owes (c : Thread nD τ) (owedR c 2) W)
        ∗ slotPts c 1 (land (sent m 1 (peer 1 c))) ∗ bufPts c cc0_stg5_0 (acc1 m c)
        ∗ ((doneR m c 2 ∗ (∃ W, owes (c : Thread nD τ) 0 W) ∗ slotPts c 1 (land (sent m 1 (peer 1 c))) ∗ bufPts c cc0_stg5_0 (acc2 m c))
          -∗ Kt ⟨k0_pay38 (acc2 m c), lift (acc2 m (peer 2 c))⟩))
      ⊢ wp frame (wpE (defs₀ (F := F)) 𝒱₀ (c : Thread nD τ) none) Set.univ
          (k0_part12 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 c v2 (k0_pay36 (acc1 m c))) Kt := by
  simp only [k0_part12_eq_skeleton]; unfold k0_part12_skel
  simp only [Prog.lift, Prog.bind_op, Prog.bind_ret, Prog.pure_eq_ret]
  iintro ⟨⟨#HR, #Hlev, Hrd, HO⟩, Hs, Hf, HK⟩
  iapply (wp_load 𝒱₀ (c : Thread nD τ) none Set.univ (m := Memref.whole cc0_scratch0) (load_slot_sub 1 1 rfl _)) $$ Hs; iintro Hs
  rw [load_land 1]
  iapply (wp_load 𝒱₀ (c : Thread nD τ) none Set.univ (m := Memref.whole cc0_stg5_0) (Finset.subset_univ _)) $$ Hf; iintro Hf
  iapply (wp_store 𝒱₀ (c : Thread nD τ) none Set.univ (m := Memref.whole cc0_stg5_0)
    (r := Rect.unit (s := S256x512) ![0, 0] S256x512.size inb_S256x512_S256x512_0_0) (Mk := Finset.univ) (Finset.subset_univ _)) $$ Hf; iintro Hf
  rw [write_out zeros2, show k0_pay37 (k0_pay36 (acc1 m c)) (lift (sent m 1 (peer 1 c))) = acc2 m c from rfl]
  iapply (round m K c _ 2 (dev6_eq c) rfl rfl rfl rfl 0 (Above.zero _)) $$ [Hrd HO Hf]
  · isplitr; · iexact HR
    isplitr; · iexact Hlev
    isplitl [Hrd]; · iexact Hrd
    isplitl [Hf]; · iapply (Entails.of_eq (outPts_eq c (acc2 m c)).symm); iexact Hf
    rw [zero_add]; iexact HO
  unfold doneR
  iintro ⟨⟨Hat, Hs2⟩, Hf, HO⟩
  ihave Hf := (Entails.of_eq (outPts_eq c (sent m 2 c))) $$ Hf
  iapply (wp_load 𝒱₀ (c : Thread nD τ) none Set.univ (m := Memref.whole cc0_stg5_0) (Finset.subset_univ _)) $$ Hf; iintro Hf
  iapply (wp_load 𝒱₀ (c : Thread nD τ) none Set.univ (m := Memref.whole cc0_scratch0) (load_slot_sub 2 2 rfl _)) $$ Hs2; iintro Hs2
  rw [read_out zeros2, load_land 2, show sent m 2 c = acc2 m c from rfl, show sent m 2 (peer 2 c) = acc2 m (peer 2 c) from rfl, wp_ret]; imodintro
  iapply HK
  isplitl [Hat Hs2]; · isplitl [Hat] <;> iassumption
  isplitl [HO]; · iexact HO
  isplitl [Hs] <;> iassumption

/-! ## The whole body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

/-- The receive buffer's elements in no slot. -/
def slotRest (c : Dev nD) : sProp 𝕄 :=
  iprop(∃ f : Buf (Elt F) ((c : Thread nD τ).loc cc0_scratch0),
    ((c : Thread nD τ).loc cc0_scratch0) ↦[Ring.restOf (ℓ := (c : Thread nD τ).loc cc0_scratch0) fun r : Fin 3 => (slotM r).view.set]{fullShare} f)

/-- The receive buffer whole is its three slots and the rest, -/
theorem slots_split (c : Dev nD) : scratchAny c ⊢ (iprop((tri fun r => iprop(∃ f, slotPts c r f)) ∗ slotRest c) : sProp 𝕄) := by
  unfold scratchAny slotRest
  refine (Ring.fam_split_ex (ℓ := (c : Thread nD τ).loc cc0_scratch0) (fun r : Fin 3 => (slotM r).view.set) slots_disjoint).trans ?_
  rw [bigSep_tri]
  exact BI.Entails.refl _

/-- and back. -/
theorem slots_join (c : Dev nD) (f₀ : Buf (Elt F) ((c : Thread nD τ).loc cc0_scratch0)) :
    (iprop((tri fun r => iprop(∃ f, slotPts c r f)) ∗ slotRest c) : sProp 𝕄) ⊢ scratchAny c := by
  unfold scratchAny slotRest
  refine BI.Entails.trans ?_ (Ring.fam_join (ℓ := (c : Thread nD τ).loc cc0_scratch0) (fun r : Fin 3 => (slotM r).view.set) slots_disjoint f₀)
  rw [bigSep_tri]
  exact BI.Entails.refl _

theorem last_ne : ¬ ((Fin.last cfg0.N).val = 0) := by decide
theorem succ_ne : ¬ ((t0_0.succ : Fin (cfg0.N + 1)).val = 0) := by decide
theorem owed_first (c : Dev nD) : (dat m c).owed t0_0.castSucc = O₀ c := by
  show (if (t0_0.castSucc : Fin (cfg0.N + 1)).val = 0 then O₀ c else 0) = O₀ c; exact if_pos rfl
theorem owed_zero (c : Dev nD) : (dat m c).owed 0 = O₀ c := by
  show (if (0 : Fin (cfg0.N + 1)).val = 0 then O₀ c else 0) = O₀ c; exact if_pos rfl
theorem owed_last (c : Dev nD) : (dat m c).owed (Fin.last cfg0.N) = 0 := by
  show (if (Fin.last cfg0.N).val = 0 then O₀ c else 0) = 0; exact if_neg last_ne
theorem owed_succ (c : Dev nD) : (dat m c).owed t0_0.succ = 0 := by
  show (if (t0_0.succ : Fin (cfg0.N + 1)).val = 0 then O₀ c else 0) = 0; exact if_neg succ_ne
theorem Φ_first (c : Dev nD) : (dat m c).Φ t0_0.castSucc = Φ₀ m c := by
  show (if (t0_0.castSucc : Fin (cfg0.N + 1)).val = 0 then Φ₀ m c else Φ₁ c) = Φ₀ m c; exact if_pos rfl
theorem Φ_zero (c : Dev nD) : (dat m c).Φ 0 = Φ₀ m c := by
  show (if (0 : Fin (cfg0.N + 1)).val = 0 then Φ₀ m c else Φ₁ c) = Φ₀ m c; exact if_pos rfl
theorem Φ_last (c : Dev nD) : (dat m c).Φ (Fin.last cfg0.N) = Φ₁ c := by
  show (if (Fin.last cfg0.N).val = 0 then Φ₀ m c else Φ₁ c) = Φ₁ c; exact if_neg last_ne
theorem Φ_succ (c : Dev nD) : (dat m c).Φ t0_0.succ = Φ₁ c := by
  show (if (t0_0.succ : Fin (cfg0.N + 1)).val = 0 then Φ₀ m c else Φ₁ c) = Φ₁ c; exact if_neg succ_ne

theorem owesAt_in (c : Dev nD) : ((dat m c).owesAt () t0_0.castSucc : sProp 𝕄) ⊢ iprop(∃ W, owes (c : Thread nD τ) (O₀ c) W) := by
  unfold Dat.owesAt Pipeline.owesWithin; rw [owed_first]
  iintro ⟨%W, -, HO⟩; iexists W; iexact HO
theorem owesAt_out (c : Dev nD) : iprop(∃ W, owes (c : Thread nD τ) 0 W) ⊢ ((dat m c).owesAt () t0_0.succ : sProp 𝕄) := by
  unfold Dat.owesAt Pipeline.owesWithin Dat.bound; rw [owed_succ]
  iintro ⟨%W, HO⟩; iexists W; isplitr; · ipureintro; exact fun _ _ => Or.inl trivial
  iexact HO

def bodyPre (c : Dev nD) : sProp 𝕄 :=
  iprop(Φ₀ m c ∗ (dat m c).owesAt () t0_0.castSucc
    ∗ (∃ d, stg c cc0_stg0_0 ((dat m c).before (0 : Fin 6) t0_0 d))
    ∗ (∃ d, stg c cc0_stg1_0 ((dat m c).before (1 : Fin 6) t0_0 d))
    ∗ (∃ d, stg c cc0_stg2_0 ((dat m c).before (2 : Fin 6) t0_0 d))
    ∗ (∃ d, stg c cc0_stg3_0 ((dat m c).before (3 : Fin 6) t0_0 d))
    ∗ (∃ d, stg c cc0_stg4_0 ((dat m c).before (4 : Fin 6) t0_0 d))
    ∗ (∃ d, stg c cc0_stg5_0 ((dat m c).before (5 : Fin 6) t0_0 d)))

def bodyPost (c : Dev nD) : sProp 𝕄 :=
  iprop(Φ₁ c ∗ (dat m c).owesAt () t0_0.succ ∗ stg c cc0_stg0_0 (xA m c) ∗ stg c cc0_stg1_0 (wqA m c) ∗ stg c cc0_stg2_0 (woA m c)
    ∗ stg c cc0_stg3_0 (kA m c) ∗ stg c cc0_stg4_0 (vA m c) ∗ stg c cc0_stg5_0 (acc3 m c))

/-- The body at contents and with its debts named. -/
def runPre (K : GSem nD τ sig → ℕ) (c : Dev nD) (f : Vec F S256x512 .bf16) : sProp 𝕄 :=
  iprop(pre1 m K c ∗ (tri fun r => iprop(posn c r ∗ (dutyTok ER (sendCell c r) 0 0 ∗ dutyTok ER (recvCell (peer r c) r) 0 0)
      ∗ cred (tallyAt (recvCell c r) () N)))
    ∗ bufPts c cc0_stg0_0 (xA m c) ∗ bufPts c cc0_stg1_0 (wqA m c) ∗ bufPts c cc0_stg2_0 (woA m c)
    ∗ bufPts c cc0_stg3_0 (kA m c) ∗ bufPts c cc0_stg4_0 (vA m c) ∗ bufPts c cc0_stg5_0 f)

def runPost (c : Dev nD) : sProp 𝕄 :=
  iprop((semVal (barCell c) 0 ∗ zeros c) ∗ (tri fun r => iprop(∃ f, slotPts c r f)) ∗ (∃ W, owes (c : Thread nD τ) 0 W)
    ∗ bufPts c cc0_stg0_0 (xA m c) ∗ bufPts c cc0_stg1_0 (wqA m c) ∗ bufPts c cc0_stg2_0 (woA m c)
    ∗ bufPts c cc0_stg3_0 (kA m c) ∗ bufPts c cc0_stg4_0 (vA m c) ∗ bufPts c cc0_stg5_0 (acc3 m c))

set_option maxHeartbeats 1600000 in
/-- The body, part by part. -/
theorem run (K : GSem nD τ sig → ℕ) (c : Dev nD) (f : Vec F S256x512 .bf16) (Kt : PUnit → sProp 𝕄) :
    iprop((records m K ∗ levAts L lv) ∗ runPre m K c f ∗ (runPost m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2) Kt := by
  simp only [cc0_body_eq_skeleton]; unfold cc0_body_skel
  simp only [wp_bind]
  unfold runPre
  iintro ⟨⟨#HR, #Hlev⟩, ⟨Hpre, ⟨⟨Hp0, Ht0, Hc0⟩, ⟨Hp1, Ht1, Hc1⟩, ⟨Hp2, Ht2, Hc2⟩⟩, Hx, Hwq, Hwo, Hk, Hv, Hf⟩, HK⟩
  iapply (part1 m K c (xA m c) (wqA m c) (kA m c) (vA m c) _)
  isplitl [Hpre]; · iexact Hpre
  isplitl [Hx]; · iexact Hx
  isplitl [Hwq]; · iexact Hwq
  isplitl [Hk]; · iexact Hk
  isplitl [Hv]; · iexact Hv
  unfold post1 barPay
  iintro ⟨⟨HatB, ⟨Hs0, Hs1, Hs2⟩, HO⟩, Hx, Hwq, Hk, Hv⟩
  iapply (part2 c (kA m c) (vA m c) _ _ _ _ _ _)
  isplitl [Hk]; · iexact Hk
  isplitl [Hv]; · iexact Hv
  iintro ⟨Hk, Hv⟩
  iapply (part3 c (kA m c) (vA m c) _ _ _ _ _)
  isplitl [Hk]; · iexact Hk
  isplitl [Hv]; · iexact Hv
  iintro ⟨Hk, Hv⟩
  iapply (part4 c (kA m c) (vA m c) _ _ _ _)
  isplitl [Hk]; · iexact Hk
  isplitl [Hv]; · iexact Hv
  iintro ⟨Hk, Hv⟩
  iapply (part5 c (kA m c) (vA m c) _ _ _ _ _ _ _ _ _ _)
  isplitl [Hk]; · iexact Hk
  isplitl [Hv]; · iexact Hv
  iintro ⟨Hk, Hv⟩
  iapply (part6 c (kA m c) (vA m c) _ _ _)
  isplitl [Hk]; · iexact Hk
  isplitl [Hv]; · iexact Hv
  iintro ⟨Hk, Hv⟩
  iapply (part7 c (kA m c) (vA m c) _ _ _)
  isplitl [Hk]; · iexact Hk
  isplitl [Hv]; · iexact Hv
  iintro ⟨Hk, Hv⟩
  iapply (part8 c (kA m c) (vA m c) _ _ _ _)
  isplitl [Hk]; · iexact Hk
  isplitl [Hv]; · iexact Hv
  iintro ⟨Hk, Hv⟩
  iapply (part9 c (kA m c) (vA m c) _ _ _)
  isplitl [Hk]; · iexact Hk
  isplitl [Hv]; · iexact Hv
  iintro ⟨Hk, Hv⟩
  iapply (part10 m K c _ (woA m c) f _ _ _ _ _ _ _ _ _ _ rfl _)
  isplitl [Hp0 Ht0 Hc0 Hs0 HO]
  · isplitr; · iexact HR
    isplitr; · iexact Hlev
    isplitl [Hp0 Ht0 Hc0 Hs0]
    · unfold ready
      isplitl [Hp0]; · iexact Hp0
      isplitl [Ht0]; · iexact Ht0
      isplitl [Hs0]; · iexact Hs0
      iexact Hc0
    iexact HO
  isplitl [Hwo]; · iexact Hwo
  isplitl [Hf]; · iexact Hf
  unfold doneR
  iintro ⟨⟨Hat0, Hs0⟩, HO, Hwo, Hf⟩
  iapply (part11 m K c _ _)
  isplitl [Hp1 Ht1 Hc1 Hs1 HO]
  · isplitr; · iexact HR
    isplitr; · iexact Hlev
    isplitl [Hp1 Ht1 Hc1 Hs1]
    · unfold ready
      isplitl [Hp1]; · iexact Hp1
      isplitl [Ht1]; · iexact Ht1
      isplitl [Hs1]; · iexact Hs1
      iexact Hc1
    iexact HO
  isplitl [Hs0]; · iexact Hs0
  isplitl [Hf]; · iexact Hf
  unfold doneR
  iintro ⟨⟨Hat1, Hs1⟩, HO, Hs0, Hf⟩
  iapply (part12 m K c _ _)
  isplitl [Hp2 Ht2 Hc2 Hs2 HO]
  · isplitr; · iexact HR
    isplitr; · iexact Hlev
    isplitl [Hp2 Ht2 Hc2 Hs2]
    · unfold ready
      isplitl [Hp2]; · iexact Hp2
      isplitl [Ht2]; · iexact Ht2
      isplitl [Hs2]; · iexact Hs2
      iexact Hc2
    iexact HO
  isplitl [Hs1]; · iexact Hs1
  isplitl [Hf]; · iexact Hf
  unfold doneR
  iintro ⟨⟨Hat2, Hs2⟩, HO, Hs1, Hf⟩
  simp only [Prog.lift, Prog.bind_op, Prog.bind_ret, Prog.pure_eq_ret]
  iapply (wp_load 𝒱₀ (c : Thread nD τ) none Set.univ (m := Memref.whole cc0_stg5_0) (Finset.subset_univ _)) $$ Hf; iintro Hf
  rw [wp_ret]; imodintro
  iapply (wp_store 𝒱₀ (c : Thread nD τ) none Set.univ (m := Memref.whole cc0_stg5_0)
    (r := Rect.unit (s := S256x512) ![0, 0] S256x512.size inb_S256x512_S256x512_0_0) (Mk := Finset.univ) (Finset.subset_univ _)) $$ Hf; iintro Hf
  rw [write_out zeros2, wp_ret]; imodintro
  icases Hat0 with ⟨HatS0, HatV0⟩
  icases Hat1 with ⟨HatS1, HatV1⟩
  icases Hat2 with ⟨HatS2, HatV2⟩
  rw [wp_ret]
  imod (close m K (barCell c) (bar_mem c)) $$ [HatB] with HzB
  · isplitr; · iexact HR
    iexact HatB
  imod (close m K (sendCell c 0) (send_mem c 0)) $$ [HatS0] with HzS0
  · isplitr; · iexact HR
    iexact HatS0
  imod (close m K (recvCell c 0) (recv_mem c 0)) $$ [HatV0] with HzV0
  · isplitr; · iexact HR
    iexact HatV0
  imod (close m K (sendCell c 1) (send_mem c 1)) $$ [HatS1] with HzS1
  · isplitr; · iexact HR
    iexact HatS1
  imod (close m K (recvCell c 1) (recv_mem c 1)) $$ [HatV1] with HzV1
  · isplitr; · iexact HR
    iexact HatV1
  imod (close m K (sendCell c 2) (send_mem c 2)) $$ [HatS2] with HzS2
  · isplitr; · iexact HR
    iexact HatS2
  imod (close m K (recvCell c 2) (recv_mem c 2)) $$ [HatV2] with HzV2
  · isplitr; · iexact HR
    iexact HatV2
  imodintro
  iapply HK
  unfold runPost zeros
  isplitl [HzB HzS0 HzV0 HzS1 HzV1 HzS2 HzV2]
  · isplitl [HzB]; · iexact HzB
    isplitl [HzS0 HzS1 HzS2]
    · isplitl [HzS0]; · iexact HzS0
      isplitl [HzS1] <;> iassumption
    isplitl [HzV0]; · iexact HzV0
    isplitl [HzV1] <;> iassumption
  isplitl [Hs0 Hs1 Hs2]
  · isplitl [Hs0]; · iexists _; iexact Hs0
    isplitl [Hs1]; · iexists _; iexact Hs1
    iexists _; iexact Hs2
  isplitl [HO]; · iexact HO
  isplitl [Hx]; · iexact Hx
  isplitl [Hwq]; · iexact Hwq
  isplitl [Hwo]; · iexact Hwo
  isplitl [Hk]; · iexact Hk
  isplitl [Hv]; · iexact Hv
  iexact Hf

set_option maxHeartbeats 800000 in
/-- The body, from what the pipeline hands it to what the pipeline takes back. -/
theorem sound_body (c : Dev nD) : bodyPre m c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_stg5_0) (Memref.isWhole_whole _)
        (Memref.whole cc0_scratch0) (Memref.isWhole_whole _) cc0_scratch1 cc0_scratch2) (fun _ => bodyPost m c) := by
  unfold bodyPre Φ₀ opened creds
  iintro ⟨⟨⟨⟨⟨%K, #HR, HatB, ⟨Hp0, Hp1, Hp2⟩, ⟨Ht0, Ht1, Ht2⟩⟩, HcB, ⟨Hc0, Hc1, Hc2⟩⟩, #Hlev⟩, Hscr, Hrng⟩, HO,
    ⟨%d0, %g0, %h0, Hx⟩, ⟨%d1, %g1, %h1, Hwq⟩, ⟨%d2, %g2, %h2, Hwo⟩, ⟨%d3, %g3, %h3, Hk⟩, ⟨%d4, %g4, %h4, Hv⟩, ⟨%d5, %g5, %h5, Hf⟩⟩
  obtain rfl : g0 = xA m c := h0.trans (before0 m c d0)
  obtain rfl : g1 = wqA m c := h1.trans (before1 m c d1)
  obtain rfl : g2 = woA m c := h2.trans (before2 m c d2)
  obtain rfl : g3 = kA m c := h3.trans (before3 m c d3)
  obtain rfl : g4 = vA m c := h4.trans (before4 m c d4)
  ihave HO := (owesAt_in m c) $$ HO
  unfold scratchAny
  icases Hscr with ⟨%f₀, Hscr⟩
  ihave Hscr := (slots_split (F := F) c) $$ [Hscr]
  · unfold scratchAny; iexists f₀; iexact Hscr
  icases Hscr with ⟨Hsl, Hrest⟩
  unfold toks posn
  icases Ht0 with ⟨HtB0, Ht0⟩
  icases Ht1 with ⟨HtB1, Ht1⟩
  icases Ht2 with ⟨HtB2, Ht2⟩
  icases Hp0 with ⟨HaS0, HaV0, #HrS0, #HrV0⟩
  icases Hp1 with ⟨HaS1, HaV1, #HrS1, #HrV1⟩
  icases Hp2 with ⟨HaS2, HaV2, #HrS2, #HrV2⟩
  iapply (run m K c g5 fun _ => bodyPost m c)
  isplitr; · isplitr <;> iassumption
  isplitl [HatB HaS0 HaV0 HaS1 HaV1 HaS2 HaV2 HtB0 HtB1 HtB2 Ht0 Ht1 Ht2 HcB Hc0 Hc1 Hc2 Hsl HO Hx Hwq Hwo Hk Hv Hf]
  · unfold runPre pre1 posn
    isplitl [HatB HtB0 HtB1 HtB2 HcB Hsl HO]
    · isplitr; · iexact HR
      isplitr; · iexact Hlev
      isplitl [HatB]; · iexact HatB
      isplitl [HcB]; · iexact HcB
      isplitl [HtB0 HtB1 HtB2]
      · isplitl [HtB0]; · iexact HtB0
        isplitl [HtB1] <;> iassumption
      isplitl [Hsl]; · iexact Hsl
      isplitr
      · isplitr; · iexact HrV0
        isplitr <;> iassumption
      iexact HO
    isplitl [HaS0 HaV0 HaS1 HaV1 HaS2 HaV2 Ht0 Ht1 Ht2 Hc0 Hc1 Hc2]
    · isplitl [HaS0 HaV0 Ht0 Hc0]
      · isplitl [HaS0 HaV0]
        · isplitl [HaS0]; · iexact HaS0
          isplitl [HaV0]; · iexact HaV0
          isplitr <;> iassumption
        isplitl [Ht0] <;> iassumption
      isplitl [HaS1 HaV1 Ht1 Hc1]
      · isplitl [HaS1 HaV1]
        · isplitl [HaS1]; · iexact HaS1
          isplitl [HaV1]; · iexact HaV1
          isplitr <;> iassumption
        isplitl [Ht1] <;> iassumption
      isplitl [HaS2 HaV2]
      · isplitl [HaS2]; · iexact HaS2
        isplitl [HaV2]; · iexact HaV2
        isplitr <;> iassumption
      isplitl [Ht2] <;> iassumption
    isplitl [Hx]; · iexact Hx
    isplitl [Hwq]; · iexact Hwq
    isplitl [Hwo]; · iexact Hwo
    isplitl [Hk]; · iexact Hk
    isplitl [Hv]; · iexact Hv
    iexact Hf
  unfold runPost
  iintro ⟨Hz, Hsl, HO, Hx, Hwq, Hwo, Hk, Hv, Hf⟩
  unfold bodyPost Φ₁
  isplitl [Hz Hsl Hrest Hrng]
  · isplitl [Hz]; · iexact Hz
    isplitl [Hsl Hrest]
    · iapply (slots_join c f₀)
      isplitl [Hsl] <;> iassumption
    iexact Hrng
  isplitl [HO]; · iapply (owesAt_out m c); iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  isplitl [Hk]
  · iexists _; isplitr; · (ipureintro; rfl)
    iexact Hk
  isplitl [Hv]
  · iexists _; isplitr; · (ipureintro; rfl)
    iexact Hv
  iexists _; isplitr; · (ipureintro; rfl)
  iexact Hf

/-- The pipeline's obligation for the body, on every device. -/
theorem body_obligation (c : Dev nD) : BodyObligation (dat (F := F) m c) (defs₀ (F := F)) 𝒱₀ () Set.univ := fun t => by
  obtain rfl := fin_N0 t
  rw [bigSep_W0, bigSep_W0]
  simp only [share_eq]
  simp only [owns_whole_eq]
  rw [Φ_first, Φ_succ]
  exact sound_body m c

end Cert.KernelIdeal.AllReduce

end
-- ==== Proof.Ideal.Launch.lean ====
/-
  From the body to the program: the region entered with the transfer cells still closed, the host operations around it, and
  the launch, which funds every cell and deals every device its tokens and its credit.
-/
module

public import proofs.«01_k».proof.Proof.Ideal.Body
public import Idealize.ShloMosaic.Lib.Pipeline.ValueKit

@[expose] public section

set_option maxRecDepth 16384

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

abbrev adm : (p : Fin 1) → (pcfgs (F := F) p).Adm := fun p => (cfgs p).toPCfg_adm

/-- The one region's proof data. -/
def pdats : (p : Fin 1) → (c : Dev nD) → Dat τ (Elt F) Unit ℕ UU ℕ (Pipeline.pin (pcfgs (F := F)) adm p) c
  | 0 => dat m

local notation "ℝ𝕊" => Pipeline.RegionSeg (pcfgs (F := F)) adm (pdats m) () defs₀ 𝒱₀ L lv
local notation "ℍ" => Pipeline.HostSeg (Ix := Unit) (Name := ℕ) (U := UU) (Lvl := ℕ) (pcfgs (F := F)) defs₀ 𝒱₀ L lv

/-! ## What the buffers hold along `@main` -/

/-- At launch, -/
abbrev VL (c : Dev nD) : Valuation τ sig (Elt F) := fun b => m (c, b)
/-- when the region is entered, -/
abbrev VI (c : Dev nD) : Valuation τ sig (Elt F) := StableHlo.after hostOps0 (VL m c)
/-- when it is left, -/
def VO (c : Dev nD) : Valuation τ sig (Elt F) :=
  Function.update (VI m c) (Proc.devRef .tc main_v6) (acc3 m c : (⟨S256x512, .bf16⟩ : BufTy).Contents (Elt F))
/-- and at the end. -/
abbrev VE (c : Dev nD) : Valuation τ sig (Elt F) := StableHlo.after hostOps1 (VO m c)

theorem VI_eq (c : Dev nD) (b : Ref sig .tc) : VI m c (Proc.devRef .tc b) = V m c b := by
  simp only [V, V0, List.flatten_cons, List.flatten_nil, List.append_nil]
theorem VO_v6 (c : Dev nD) : VO m c (Proc.devRef .tc main_v6) = acc3 m c := by unfold VO; rw [Function.update_self]
theorem VO_ne (c : Dev nD) (b : Ref sig .tc) (h : b ≠ main_v6) : VO m c (Proc.devRef .tc b) = V m c b := by
  unfold VO; rw [Function.update_of_ne (StableHlo.devRef_ne_of_ne h)]; exact VI_eq m c b

/-- The last host operation writes the result buffer only. -/
theorem VE_ne (c : Dev nD) (b : Ref sig .tc) (h : b ≠ main_v7) : VE m c (Proc.devRef .tc b) = VO m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))

/-- The result: the reduced block, read at the result's shape. -/
def result (c : Dev nD) : (⟨S2x128x512, .bf16⟩ : BufTy).Contents (Elt F) := shapeCast S2x128x512 (acc3 m c) shapeCasts_S256x512_S2x128x512

theorem VE_v7 (c : Dev nD) : VE m c (Proc.devRef .tc main_v7) = result m c := by
  show StableHlo.after hostOps1 (VO m c) (Proc.devRef .tc main_v7) = _
  rw [StableHlo.after_cons, StableHlo.after_nil, StableHlo.reshape_result, VO_v6]
  rfl

/-! ## The region -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The unscoped buffers, and those of them that are no window's array. -/
abbrev bufs : Finset (DevRef τ sig) := Pipeline.ucRefs τ sig
abbrev rest : Finset (DevRef τ sig) := bufs \ Pipeline.arrRefs (τ := τ) spec0

theorem arr_sub : Pipeline.arrRefs (τ := τ) spec0 ⊆ bufs := Pipeline.arrRefs_sub_ucRefs spec0 winFacts0.arr_unscoped

theorem held_parts (c : Dev nD) (W : Valuation τ sig (Elt F)) : (StableHlo.held (c.tc : Thread nD τ) bufs W : sProp 𝕄)
    = iprop(StableHlo.held (c.tc : Thread nD τ) (Pipeline.arrRefs (τ := τ) spec0) W ∗ StableHlo.held (c.tc : Thread nD τ) rest W) :=
  StableHlo.held_sub_split _ arr_sub W

theorem bigSep_six (Q : Fin 6 → sProp 𝕄) : bigSep Finset.univ Q = iprop(Q 0 ∗ Q 1 ∗ Q 2 ∗ Q 3 ∗ Q 4 ∗ Q 5) :=
  bigSep_univ_eq_bigSepL [(0 : Fin 6), (1 : Fin 6), (2 : Fin 6), (3 : Fin 6), (4 : Fin 6), (5 : Fin 6)] (by decide) (by decide) Q

theorem ownSems_eq (c : Dev nD) : (Pipeline.ownSems0 osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0) := by
  unfold Pipeline.ownSems0; rw [bigSep_six]; rfl

/-- One transfer cell opened, from the right to open it and its counter at zero. -/
theorem open_one (K : GSem nD τ sig → ℕ) (g : GSem nD τ sig) (hg : g ∈ (barCells ∪ scCells : Finset (GSem nD τ sig))) :
    iprop(records m K ∗ openTok ER g ∗ semVal g 0) ⊢ (|={Set.univ}=> iprop(atPos ER g 0 ∅ 0 ∗ reached ER g 0) : sProp 𝕄) :=
  (sep_mono_left (inv_at m K hg)).trans (Rounds.cell_open ER (sched m) (Set.mem_univ (K g)))

/-- The two cells of a round opened. -/
theorem open_round (K : GSem nD τ sig → ℕ) (c : Dev nD) (r : Fin 3) :
    iprop(records m K ∗ keys c r ∗ semVal (sendCell c r) 0 ∗ semVal (recvCell c r) 0) ⊢ (|={Set.univ}=> posn c r : sProp 𝕄) := by
  unfold keys posn
  iintro ⟨#HR, ⟨HoS, HoV⟩, Hs, Hv⟩
  imod (open_one m K (sendCell c r) (send_mem c r)) $$ [HoS Hs] with ⟨HaS, HrS⟩
  · isplitr; · iexact HR
    isplitl [HoS] <;> iassumption
  imod (open_one m K (recvCell c r) (recv_mem c r)) $$ [HoV Hv] with ⟨HaV, HrV⟩
  · isplitr; · iexact HR
    isplitl [HoV] <;> iassumption
  imodintro
  isplitl [HaS]; · iexact HaS
  isplitl [HaV]; · iexact HaV
  isplitl [HrS] <;> iassumption

theorem hopen (c : Dev nD) : iprop(ghost m c ∗ Pipeline.ownSems0 osem c ∗ levAts L lv)
    ⊢ (|={Set.univ}=> iprop(opened m c ∗ levAts L lv) : sProp 𝕄) := by
  rw [ownSems_eq]
  unfold ghost linear opened tri
  iintro ⟨⟨⟨%K, #HR, HaB, ⟨Hk0, Hk1, Hk2⟩, Ht⟩, Hc⟩, ⟨Hs0, Hs1, Hs2, Hv0, Hv1, Hv2⟩, #HL⟩
  imod (open_round m K c 0) $$ [Hk0 Hs0 Hv0] with H0
  · isplitr; · iexact HR
    isplitl [Hk0]; · iexact Hk0
    isplitl [Hs0] <;> iassumption
  imod (open_round m K c 1) $$ [Hk1 Hs1 Hv1] with H1
  · isplitr; · iexact HR
    isplitl [Hk1]; · iexact Hk1
    isplitl [Hs1] <;> iassumption
  imod (open_round m K c 2) $$ [Hk2 Hs2 Hv2] with H2
  · isplitr; · iexact HR
    isplitl [Hk2]; · iexact Hk2
    isplitl [Hs2] <;> iassumption
  imodintro
  isplitr []
  · isplitr [Hc]
    · iexists K
      isplitr; · iexact HR
      isplitl [HaB]; · iexact HaB
      isplitr [Ht]
      · isplitl [H0]; · iexact H0
        isplitl [H1] <;> iassumption
      · iexact Ht
    · iexact Hc
  · iexact HL

/-- What is kept beside the region's own resources once it is over: the barrier's counter at zero. -/
def done (c : Dev nD) : sProp 𝕄 := semVal (barCell c) 0

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (VI m c) ∗ (opened m c ∗ levAts L lv))
    ⊢ (pdats m 0 c).Φ 0 := by
  rw [show (pdats m 0 c).Φ 0 = Φ₀ m c from Φ_zero m c,
    show (Pipeline.scopedRest (Pipeline.pin (pcfgs (F := F)) adm 0).spec c : sProp 𝕄) = _ from scopedRest0_eq c]
  unfold Φ₀ scratchAny
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (VO m c) ∗ Pipeline.ownSems0 osem c ∗ done c) := by
  rw [show (pdats m 0 c).Φ (Fin.last (Pipeline.pin (pcfgs (F := F)) adm 0).N) = Φ₁ c from Φ_last m c,
    show (Pipeline.scopedRest (Pipeline.pin (pcfgs (F := F)) adm 0).spec c : sProp 𝕄) = _ from scopedRest0_eq c, ownSems_eq, held_none]
  unfold Φ₁ scratchAny zeros done tri
  iintro ⟨⟨Hb, ⟨Hs0, Hs1, Hs2⟩, Hv0, Hv1, Hv2⟩, Hs, Hp⟩
  isplitl [Hs]; · iexact Hs
  isplitl [Hp]; · iexact Hp
  isplitr; · iempintro
  isplitr [Hb]
  · isplitl [Hs0]; · iexact Hs0
    isplitl [Hs1]; · iexact Hs1
    isplitl [Hs2]; · iexact Hs2
    isplitl [Hv0]; · iexact Hv0
    isplitl [Hv1] <;> iassumption
  · iexact Hb

/-- Everything owed at any point is owed above every staging cell. -/
theorem above_O₀ (c : Dev nD) : Above 0 (O₀ c) := by
  unfold O₀ O₃ owedR owedB
  refine ((((Above.tally _ _ ?_).add (Above.tally _ _ ?_)).add (Above.tally _ _ ?_)).add (Above.tally _ _ ?_)).add (Above.tally _ _ ?_) |>.add (Above.tally _ _ ?_)
  · exact (lv_recv (peer 2 c) 2).symm ▸ (by decide)
  · exact (lv_recv (peer 1 c) 1).symm ▸ (by decide)
  · exact (lv_recv (peer 0 c) 0).symm ▸ (by decide)
  all_goals exact (lv_bar _).symm ▸ (by decide)

theorem cut_owed (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact above_O₀ c g i h
  · exact absurd h (Nat.lt_irrefl 0)

theorem stage_lv : ∀ (c : Dev nD) (w : Fin 6) (s : Fin (spec0 w).nbuf), lv ((c : Thread nD τ), .dma ((spec0 w).sem s)) () ≤ 0 := by
  decide

theorem arr_in (c : Dev nD) (w : Fin cfg0.W) : (dat m c).arrAt w 0 = VI m c (Proc.devRef .tc (Pipeline.arrRef spec0 w)) := rfl

theorem arr_out (c : Dev nD) (w : Fin cfg0.W) : (dat m c).arrAt w cfg0.N = VO m c (Proc.devRef .tc (Pipeline.arrRef spec0 w)) := by
  fin_cases w
  · exact ((dat m c).arrAt_in 0 rfl _).trans (VO_ne m c main_v1 (by decide)).symm
  · exact ((dat m c).arrAt_in 1 rfl _).trans (VO_ne m c main_arg1 (by decide)).symm
  · exact ((dat m c).arrAt_in 2 rfl _).trans (VO_ne m c main_arg4 (by decide)).symm
  · exact ((dat m c).arrAt_in 3 rfl _).trans (VO_ne m c main_v3 (by decide)).symm
  · exact ((dat m c).arrAt_in 4 rfl _).trans (VO_ne m c main_v5 (by decide)).symm
  · refine Eq.trans ?_ (VO_v6 m c).symm
    refine (dat m c).arrAt_eq_of_after_last 5 t0_0 (by decide +kernel) _ fun j => ?_
    blk_simp
    rfl

set_option backward.isDefEq.respectTransparency.types false in
set_option backward.proofsInPublic true in
/-- The region: entered at `VI` owing `O₀`, left at `VO` owing nothing. -/
def reg : ℝ𝕊 0 :=
  Pipeline.RegionSeg.ofTalk (pcfgs (F := F)) adm (pdats m) () defs₀ 𝒱₀ L lv 0 osem (by decide : Pipeline.OwnSemFacts spec0 osem)
    ∅ rest (Finset.empty_subset _) kit rfl (fun c => (body_obligation m c).loose)
    (fun _ => 0) O₀ (fun c => (owed_zero m c).trans (zero_add _).symm) (owed_last m) (fun _ => rfl) (fun c w => share_eq m c w)
    (VI m) (VO m)
    (fun c b hb => by
      unfold VO
      refine Function.update_of_ne (fun h => ?_) _ _
      subst h
      exact absurd hb (by decide))
    (ghost m) done (fun c => iprop(opened m c ∗ levAts L lv)) done (hopen m) (hin m) (hout m)
    (fun c => by iintro H; imodintro; iexact H)
    (fun _ => 0)
    ⟨fun c w s => by rw [L_tc]; exact Finset.mem_singleton_self _, fun c w s => stage_lv c w s, fun c t g i h => cut_owed m c t g i h⟩
    (fun _ => iprop(emp))
    (fun c w => arr_in m c w) (fun c w => arr_out m c w)

/-! ## The segments -/

/-- What rides beside the buffers up to the region, -/
def R₀ (c : Dev nD) : sProp 𝕄 := iprop((ghost m c ∗ ∃ r, prngReg c r) ∗ ∃ W, owes (c : Thread nD τ) (O₀ c) W)
/-- and after it. -/
def R₁ (c : Dev nD) : sProp 𝕄 := iprop(done c ∗ ∃ W, owes (c : Thread nD τ) (0 : CellTallies nD τ sig Unit) W)

theorem ops0_sub : ∀ op ∈ (hostOps0 : List (HloOp τ sig (Elt F))), op.bufs ⊆ bufs := fun op h =>
  Pipeline.sub_ucRefs op ((List.forall_iff_forall_mem.mp hostOps0_sub) op h)
theorem ops1_sub : ∀ op ∈ (hostOps1 : List (HloOp τ sig (Elt F))), op.bufs ⊆ bufs := fun op h =>
  Pipeline.sub_ucRefs op ((List.forall_iff_forall_mem.mp hostOps1_sub) op h)

def seg0 : ℍ := Pipeline.HostSeg.ofOps _ _ _ _ _ bufs hostOps0 ops0_sub (List.forall_iff_forall_mem.mp hostOps0_fresh) (VL m) (R₀ m)
def seg1 : ℍ := Pipeline.HostSeg.ofOps _ _ _ _ _ bufs hostOps1 ops1_sub (List.forall_iff_forall_mem.mp hostOps1_fresh) (VO m) R₁

def segs : List (Pipeline.Seg (pcfgs (F := F)) adm (pdats m) () defs₀ 𝒱₀ L lv) :=
  [.host (seg0 m), .region (reg m), .host (seg1 m)]

theorem main_eq (c : Dev nD) : main (F := F) c = Pipeline.Seg.run (segs m) :=
  main_segs adm (pdats m) () 𝒱₀ L lv (seg0 m) (seg1 m) (reg m) rfl rfl c

theorem reg_pre (c : Dev nD) : iprop(StableHlo.held (c : Thread nD τ) bufs (VI m c) ∗ R₀ m c) ⊢ (reg m).pre c := by
  show _ ⊢ iprop(StableHlo.held (c.tc : Thread nD τ) (Pipeline.arrRefs (τ := τ) spec0) (VI m c) ∗ (∃ r, prngReg c r)
    ∗ (StableHlo.held (c.tc : Thread nD τ) rest (VI m c) ∗ emp) ∗ ghost m c ∗ ∃ Wd, owes (c : Thread nD τ) (0 + O₀ c) Wd)
  rw [held_parts, zero_add]
  unfold R₀
  iintro ⟨⟨Ha, Hr⟩, ⟨HG, Hp⟩, HO⟩
  isplitl [Ha]; · iexact Ha
  isplitl [Hp]; · iexact Hp
  isplitl [Hr]
  · isplitl [Hr]; · iexact Hr
    iempintro
  isplitl [HG] <;> iassumption

theorem reg_post (c : Dev nD) : (reg m).post c ⊢ iprop(StableHlo.held (c : Thread nD τ) bufs (VO m c) ∗ R₁ c) := by
  show iprop(StableHlo.held (c.tc : Thread nD τ) (Pipeline.arrRefs (τ := τ) spec0) (VO m c) ∗ (∃ r, prngReg c r)
    ∗ (StableHlo.held (c.tc : Thread nD τ) rest (VO m c) ∗ emp) ∗ done c ∗ ∃ Wd, owes (c : Thread nD τ) (0 : CellTallies nD τ sig Unit) Wd) ⊢ _
  rw [held_parts]
  unfold R₁
  iintro ⟨Ha, -, ⟨Hr, -⟩, HD, HO⟩
  isplitl [Ha Hr]; · isplitl [Ha] <;> iassumption
  isplitl [HD] <;> iassumption

end Cert.KernelIdeal.AllReduce

end
-- ==== Proof.Ideal.Run.lean ====
/-
  The run of the whole program: the launch's credit and tokens dealt to the devices, and what every final state holds.
-/
module

public import proofs.«01_k».proof.Proof.Ideal.Launch
public import Idealize.ShloMosaic.Lib.Quiescent

@[expose] public section

set_option maxRecDepth 16384

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The duties' tokens -/

/-- The duties that pay into one device's cells: its three barrier units, its three sends, its three receives. -/
abbrev tokSem : Fin 9 → SemLoc sig := fun
  | 0 => .reg barS | 1 => .reg barS | 2 => .reg barS | 3 => .dma (sS 0) | 4 => .dma (sS 1) | 5 => .dma (sS 2)
  | 6 => .dma (vS 0) | 7 => .dma (vS 1) | 8 => .dma (vS 2)
abbrev tokDuty : Fin 9 → Fin 3 := fun | 0 => 0 | 1 => 1 | 2 => 2 | 3 => 0 | 4 => 0 | 5 => 0 | 6 => 0 | 7 => 0 | 8 => 0
theorem tok_inj : Function.Injective (fun k : Fin 9 => (tokSem k, tokDuty k)) := by decide

def allToks : Finset (GSem nD τ sig × ℕ × Fin 3) :=
  Finset.univ.map ⟨fun ck : Dev nD × Fin 9 => (((ck.1 : Thread nD τ), tokSem ck.2), 0, tokDuty ck.2), fun _ _ h =>
    Prod.ext (congrArg (fun t : GSem nD τ sig × ℕ × Fin 3 => t.1.1.1) h)
      (tok_inj (Prod.ext (congrArg (fun t : GSem nD τ sig × ℕ × Fin 3 => t.1.2) h) (congrArg (fun t : GSem nD τ sig × ℕ × Fin 3 => t.2.2) h)))⟩

theorem bigSep_nine (Q : Fin 9 → sProp 𝕄) :
    bigSep Finset.univ Q = iprop(Q 0 ∗ Q 1 ∗ Q 2 ∗ Q 3 ∗ Q 4 ∗ Q 5 ∗ Q 6 ∗ Q 7 ∗ Q 8) :=
  bigSep_univ_eq_bigSepL [(0 : Fin 9), 1, 2, 3, 4, 5, 6, 7, 8] (by decide) (by decide) Q

/-- The tokens of one device's cells, round by round. -/
def ownToks (c : Dev nD) (r : Fin 3) : sProp 𝕄 :=
  iprop(dutyTok ER (barCell c) 0 r ∗ dutyTok ER (sendCell c r) 0 0 ∗ dutyTok ER (recvCell c r) 0 0)

theorem toks_split : bigSep allToks (fun x => (dutyTok ER x.1 x.2.1 x.2.2 : sProp 𝕄))
    ⊢ bigSep Finset.univ fun c : Dev nD => tri fun r => ownToks (F := F) c r := by
  unfold allToks; rw [bigSep_map, bigSep_univ_prod]
  refine bigSep_mono fun c _ => ?_
  rw [bigSep_nine]
  unfold tri ownToks
  show iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0) ⊢ _
  iintro ⟨B0, B1, B2, S0, S1, S2, V0, V1, V2⟩
  isplitl [B0 S0 V0]
  · isplitl [B0]; · iexact B0
    isplitl [S0] <;> iassumption
  isplitl [B1 S1 V1]
  · isplitl [B1]; · iexact B1
    isplitl [S1] <;> iassumption
  isplitl [B2]; · iexact B2
  isplitl [S2] <;> iassumption

/-- A round's barrier and receive tokens handed to the partner. -/
theorem toks_round (r : Fin 3) : (bigSep Finset.univ fun c : Dev nD => (ownToks c r : sProp 𝕄))
    ⊢ bigSep Finset.univ fun c : Dev nD => toks (F := F) c r := by
  unfold ownToks toks
  rw [bigSep_sep', bigSep_sep', bigSep_sep', bigSep_sep', bigSep_univ_equiv (swap r) (fun c : Dev nD => (dutyTok ER (barCell c) 0 r : sProp 𝕄)),
    bigSep_univ_equiv (swap r) (fun c : Dev nD => (dutyTok ER (recvCell c r) 0 0 : sProp 𝕄))]
  exact BI.Entails.refl _

theorem toks_dealt : (bigSep Finset.univ fun c : Dev nD => tri fun r => (ownToks c r : sProp 𝕄))
    ⊢ bigSep Finset.univ fun c : Dev nD => tri fun r => toks (F := F) c r := by
  unfold tri
  rw [bigSep_sep', bigSep_sep', bigSep_sep', bigSep_sep']
  exact BIClass.sep_mono (toks_round 0) (BIClass.sep_mono (toks_round 1) (toks_round 2))

/-- The rights to open one device's transfer cells, round by round. -/
theorem keys_split : bigSep scCells (fun g => (openTok ER g : sProp 𝕄)) ⊢ bigSep Finset.univ fun c : Dev nD => tri fun r => keys (F := F) c r := by
  rw [bigSep_map, bigSep_univ_prod]
  refine bigSep_mono fun c _ => ?_
  rw [bigSep_six]
  unfold tri keys
  show iprop(openTok ER (sendCell c 0) ∗ openTok ER (sendCell c 1) ∗ openTok ER (sendCell c 2)
    ∗ openTok ER (recvCell c 0) ∗ openTok ER (recvCell c 1) ∗ openTok ER (recvCell c 2)) ⊢ _
  iintro ⟨S0, S1, S2, V0, V1, V2⟩
  isplitl [S0 V0]; · isplitl [S0] <;> iassumption
  isplitl [S1 V1]; · isplitl [S1] <;> iassumption
  isplitl [S2] <;> iassumption

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The launch's own ghost state: the pipeline's at its staging cells, the all-reduce's at its cells. -/
def u₀ : UU :=
  (initOf (Pipeline.cells (Pipeline.pin (pcfgs (F := F)) adm) cellOf_inj) (Pipeline.launchToks (Pipeline.pin (pcfgs (F := F)) adm) cellOf_inj),
    launchOf barCells scCells allToks)

/-- The all-reduce's part of it is kept whole, on the first device, until it is dealt. -/
def G (c : Dev nD) : sProp 𝕄 := if c = 0 then BI.own (ER (launchOf barCells scCells allToks)) else iprop(emp)

theorem G_sum : bigSep Finset.univ (G (F := F)) = (BI.own (ER (launchOf barCells scCells allToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## The launch's credit -/

theorem peer_flip (r : Fin 3) (c d : Dev nD) : peer r d = c ↔ d = peer r c :=
  ⟨fun h => by rw [← h, peer_peer], fun h => by rw [h, peer_peer]⟩

theorem recv_sem_inj : ∀ {r r' : Fin 3}, (SemLoc.dma (vS r) : SemLoc sig) = .dma (vS r') → r = r' := by decide

theorem owedR_recv (d c : Dev nD) (r' r : Fin 3) :
    owedR d r' (recvCell c r) () = if r' = r then (if d = peer r c then N else 0) else 0 := by
  unfold owedR
  rw [tallyAt_apply]
  by_cases h : r' = r
  · subst h
    rw [if_pos rfl]
    by_cases h' : d = peer r' c
    · rw [if_pos h', if_pos]
      exact ⟨by rw [(peer_flip r' c d).mpr h'], rfl⟩
    · rw [if_neg h', if_neg]
      rintro ⟨e, -⟩
      exact h' ((peer_flip r' c d).mp (congrArg (fun g : GSem nD τ sig => g.1.1) e).symm)
  · rw [if_neg h, if_neg]
    rintro ⟨e, -⟩
    exact h (recv_sem_inj (congrArg Prod.snd e).symm)

theorem owedR_bar (d c : Dev nD) (r : Fin 3) : owedR d r (barCell c) () = 0 := by
  unfold owedR
  rw [tallyAt_apply, if_neg]
  rintro ⟨e, -⟩
  exact recv_ne_bar r (congrArg Prod.snd e).symm

theorem owedB_recv (d c : Dev nD) (r' r : Fin 3) : owedB d r' (recvCell c r) () = 0 := by
  unfold owedB
  rw [tallyAt_apply, if_neg]
  rintro ⟨e, -⟩
  exact recv_ne_bar r (congrArg Prod.snd e)

theorem owedB_bar (d c : Dev nD) (r : Fin 3) : owedB d r (barCell c) () = if d = peer r c then 1 else 0 := by
  unfold owedB
  rw [tallyAt_apply]
  by_cases h' : d = peer r c
  · rw [if_pos h', if_pos]
    exact ⟨by rw [(peer_flip r c d).mpr h'], rfl⟩
  · rw [if_neg h', if_neg]
    rintro ⟨e, -⟩
    exact h' ((peer_flip r c d).mp (congrArg (fun g : GSem nD τ sig => g.1.1) e).symm)

theorem owed_bar (d c : Dev nD) : O₀ d (barCell c) ()
    = ((if d = peer 2 c then 1 else 0) + (if d = peer 1 c then 1 else 0)) + (if d = peer 0 c then 1 else 0) := by
  unfold O₀ O₃
  simp only [Pi.add_apply, Finsupp.add_apply, owedR_bar, owedB_bar, Nat.zero_add]

theorem owed_recv (d c : Dev nD) (r : Fin 3) : O₀ d (recvCell c r) () = if d = peer r c then N else 0 := by
  unfold O₀ O₃
  simp only [Pi.add_apply, Finsupp.add_apply, owedR_recv, owedB_recv, Nat.add_zero]
  obtain rfl | rfl | rfl : r = 0 ∨ r = 1 ∨ r = 2 := by revert r; decide
  all_goals simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1,
    Finset.sum_ite_eq' Finset.univ (peer 0 c) fun _ => 1, if_pos (Finset.mem_univ _), if_pos (Finset.mem_univ _), if_pos (Finset.mem_univ _)]

theorem launch_recv (c : Dev nD) (r : Fin 3) :
    tallyOn (recvCell c r) (launchCredit (Pipeline.owing O₀) 0 (recvCell c r)) = (tallyAt (recvCell c r) () N : CellTallies nD τ sig Unit) := by
  unfold tallyAt; refine congrArg _ (Finsupp.ext fun u => ?_); cases u
  rw [Pipeline.launchCredit_owing, Finsupp.single_eq_same, Finset.sum_congr rfl fun d _ => owed_recv d c r, Finset.sum_ite_eq' Finset.univ (peer r c) fun _ => N,
    if_pos (Finset.mem_univ _)]

/-- The four cells of a device that the launch gives it credit for. -/
abbrev credSem : Fin 4 ↪ SemLoc sig := ⟨fun | 0 => .reg barS | 1 => .dma (vS 0) | 2 => .dma (vS 1) | 3 => .dma (vS 2), by decide⟩

theorem bigSep_four (Q : Fin 4 → sProp 𝕄) : bigSep Finset.univ Q = iprop(Q 0 ∗ Q 1 ∗ Q 2 ∗ Q 3) :=
  bigSep_univ_eq_bigSepL [(0 : Fin 4), 1, 2, 3] (by decide) (by decide) Q

theorem creds_dealt (c : Dev nD) : (Pipeline.launchCred O₀ c : sProp 𝕄) ⊢ creds c := by
  unfold Pipeline.launchCred
  refine (BI.bigSep_subset (Finset.subset_univ (Finset.univ.map credSem))).trans ?_
  rw [bigSep_map, bigSep_four]
  unfold creds tri
  show iprop(cred (tallyOn (barCell c) (launchCredit (Pipeline.owing O₀) 0 (barCell c)))
    ∗ cred (tallyOn (recvCell c 0) (launchCredit (Pipeline.owing O₀) 0 (recvCell c 0)))
    ∗ cred (tallyOn (recvCell c 1) (launchCredit (Pipeline.owing O₀) 0 (recvCell c 1)))
    ∗ cred (tallyOn (recvCell c 2) (launchCredit (Pipeline.owing O₀) 0 (recvCell c 2)))) ⊢ _
  rw [launch_bar, launch_recv, launch_recv, launch_recv]

/-! ## The launch -/

/-- What a device starts `@main` with, -/
abbrev T₀ (c : Dev nD) : sProp 𝕄 := iprop(StableHlo.held (c : Thread nD τ) bufs (VL m c) ∗ R₀ m c)
/-- what it ends with, -/
abbrev Tₙ (c : Dev nD) : sProp 𝕄 := iprop(StableHlo.held (c : Thread nD τ) bufs (VE m c) ∗ done c)
/-- and the part of the former that is not the all-reduce's ghost state. -/
def bundle (c : Dev nD) : sProp 𝕄 :=
  iprop(StableHlo.held (c : Thread nD τ) bufs (VL m c) ∗ creds c ∗ owes (c : Thread nD τ) (O₀ c) ∅ ∗ ∃ r, prngReg c r)

theorem T₀_intro (K : GSem nD τ sig → ℕ) (c : Dev nD) : iprop(records m K ∗ (linear c ∗ bundle m c)) ⊢ T₀ m c := by
  unfold bundle T₀ R₀ ghost
  iintro ⟨#HR, Hl, Hh, Hc, HO, Hp⟩
  isplitl [Hh]; · iexact Hh
  isplitr [HO]
  · isplitr [Hp]
    · isplitr [Hc]
      · iexists K
        isplitr; · iexact HR
        iexact Hl
      · iexact Hc
    · iexact Hp
  · iexists ∅; iexact HO

/-- A family of pairs is a pair of families. -/
theorem bigSep_part {Q Q' : Dev nD → sProp 𝕄} :
    bigSep Finset.univ (fun c => iprop(Q c ∗ Q' c)) ⊢ iprop(bigSep Finset.univ Q ∗ bigSep Finset.univ Q') :=
  Entails.of_eq (bigSep_sep' _ _ _)
theorem bigSep_join {Q Q' : Dev nD → sProp 𝕄} :
    iprop(bigSep Finset.univ Q ∗ bigSep Finset.univ Q') ⊢ bigSep Finset.univ (fun c => iprop(Q c ∗ Q' c)) :=
  Entails.of_eq (bigSep_sep' _ _ _).symm

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (VL m c) from
      Pipeline.unscopedBufs_held c (VL m c), unscopedSems_eq]
    unfold bundle
    iintro ⟨Hh, Hus, HO, Hcr, Hp, HG⟩
    ihave Hc := (creds_dealt (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := bigSep_part $$ H'; icases H2 with ⟨HB, H3⟩
  ihave H4 := bigSep_part $$ H3; icases H4 with ⟨Hv, HG⟩
  ihave Hu := (show bigSep Finset.univ (G (F := F)) ⊢ BI.own (ER (launchOf barCells scCells allToks)) from Entails.of_eq G_sum) $$ HG
  imod (Rounds.fund_launch ER (sched m) disjoint_cells (fun g _ h => h) allToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear c ∗ bundle m c)) fun c _ => T₀_intro m K c)
  isplitr
  · unfold records
    isplitr; · iexact Hinv
    iexact Hr
  iapply bigSep_join
  isplitr [HB]
  · unfold linear
    iapply bigSep_join; isplitl [Hat]; · iapply hat $$ Hat
    iapply bigSep_join; isplitl [Hopen]; · iapply (keys_split (F := F)) $$ Hopen
    iapply (toks_dealt (F := F))
    iapply (toks_split (F := F)) $$ Htok
  · iexact HB

/-! ## The run -/

/-- Held buffers are what the memory holds. -/
theorem held_read (c : Dev nD) (s : Phys nD τ sig (Elt F)) (W : Valuation τ sig (Elt F)) (S : Finset (DevRef τ sig)) :
    iprop(StableHlo.held (c : Thread nD τ) S W ∗ SI s) ⊢ (iprop(⌜∀ b ∈ S, s.mem.mem ((c, b) : Loc nD τ sig) = W b⌝ ∗ SI s) : sProp 𝕄) := by
  classical
  induction S using Finset.induction_on with
  | empty =>
    iintro ⟨-, HSI⟩
    isplitr; · ipureintro; exact fun b hb => absurd hb (Finset.notMem_empty b)
    iexact HSI
  | insert b S hb ih =>
    rw [show (StableHlo.held (c : Thread nD τ) (insert b S) W : sProp 𝕄)
      = iprop((((c, b) : Loc nD τ sig) ↦{fullShare} W b) ∗ StableHlo.held (c : Thread nD τ) S W) from bigSep_insert hb]
    iintro ⟨⟨Hb, HS⟩, HSI⟩
    icombine HSI Hb gives %hx
    ihave H := ih $$ [HS HSI]
    · isplitl [HS] <;> iassumption
    icases H with ⟨%h, HSI⟩
    isplitr
    · ipureintro
      intro b' hb'
      rcases Finset.mem_insert.mp hb' with rfl | hb'
      · exact Buf.eq_of_forall_mem_univ hx
      · exact h b' hb'
    iexact HSI

theorem unscoped_eq : ∀ sm : SemLoc sig, sm.isScoped .tc = false → sm = .reg barS := by decide

theorem mem_bufs (b : Ref sig .tc) (h : (Proc.devRef .tc b : DevRef τ sig).isScoped = false) : (Proc.devRef .tc b : DevRef τ sig) ∈ bufs := by
  revert b; decide

set_option backward.isDefEq.respectTransparency.types false in
/-- From any memory with zero counters every weakly fair execution of `@main` on the eight devices terminates; every final
    state has each unscoped buffer at `VE` and every semaphore counter of the mesh at zero. -/
theorem run_all : θ_run defs (onTc (τ := τ) (main (F := F))) ⟨m, fun _ => 0, ρ⟩
    (fun r => (∀ c : Dev nD, ∀ b ∈ bufs, r.2.mem ((c, b) : Loc nD τ sig) = VE m c b) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_sum]; iexact HX)
    (T₀ := T₀ m) (Tₙ := Tₙ m)
    (hch := by
      refine ⟨fun c => .rfl, fun c => reg_pre m c, fun c => reg_post m c, fun c => ?_⟩
      show iprop(StableHlo.held (c : Thread nD τ) bufs (VE m c) ∗ R₁ c)
        ⊢ iprop(Tₙ m c ∗ ∃ W, owes (c : Thread nD τ) (0 : CellTallies nD τ sig Unit) W)
      unfold R₁
      iintro ⟨Hh, Hb, HO⟩
      isplitr [HO]
      · isplitl [Hh] <;> iassumption
      · iexact HO)
    (hinit := init m ρ)
    (QY := fun c s => (∀ b ∈ bufs, s.mem ((c, b) : Loc nD τ sig) = VE m c b) ∧ s.sem (barCell c) = 0)
    (hfin := fun c s' => by
      dsimp only [Tₙ, done]
      iintro ⟨⟨Hh, Hb⟩, HSI⟩
      icombine HSI Hb gives %hb
      ihave H := (held_read c s' (VE m c) bufs) $$ [Hh HSI]
      · isplitl [Hh] <;> iassumption
      icases H with ⟨%h, HSI⟩
      imodintro
      isplitr
      · ipureintro
        exact ⟨h, by simpa using hb⟩
      iexact HSI)
    (hQ := fun s h hs => ⟨fun c => (h c).1,
      sem_eq_zero hs fun c sm hsm => by
        obtain rfl := unscoped_eq sm hsm
        exact (h c).2⟩)

theorem VE_arg (c : Dev nD) (b : Ref sig .tc) (h6 : b ≠ main_v6) (h7 : b ≠ main_v7) : VE m c (Proc.devRef .tc b) = V m c b :=
  (VE_ne m c b h7).trans (VO_ne m c b h6)

/-- The run read at the arguments and the result: the arguments end as launched, the result at the reduced block. -/
theorem run_main : θ_run defs (onTc (τ := τ) (main (F := F))) ⟨m, fun _ => 0, ρ⟩
    (fun r => (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.mem ((c.tc : Thread nD τ).loc main_v7) = result m c) ∧ r.2.sem = fun _ => 0) :=
  (θ_run defs _ _).mono (fun r h => ⟨fun c =>
    ⟨⟨(h.1 c (Proc.devRef .tc main_arg0) (mem_bufs _ rfl)).trans ((VE_arg m c main_arg0 (by decide) (by decide)).trans (V_main_arg0 m c)),
      (h.1 c (Proc.devRef .tc main_arg1) (mem_bufs _ rfl)).trans ((VE_arg m c main_arg1 (by decide) (by decide)).trans (V_main_arg1 m c)),
      (h.1 c (Proc.devRef .tc main_arg2) (mem_bufs _ rfl)).trans ((VE_arg m c main_arg2 (by decide) (by decide)).trans (V_main_arg2 m c)),
      (h.1 c (Proc.devRef .tc main_arg3) (mem_bufs _ rfl)).trans ((VE_arg m c main_arg3 (by decide) (by decide)).trans (V_main_arg3 m c)),
      (h.1 c (Proc.devRef .tc main_arg4) (mem_bufs _ rfl)).trans ((VE_arg m c main_arg4 (by decide) (by decide)).trans (V_main_arg4 m c))⟩,
      (h.1 c (Proc.devRef .tc main_v7) (mem_bufs _ rfl)).trans (VE_v7 m c)⟩, h.2⟩) (run_all m ρ)

end Cert.KernelIdeal.AllReduce

end
-- ==== Proof.Ideal.Softmax.lean ====
/-
  The extended-real mathematics both programs compute: one row of attention (`soft` of the row's `score`s), a common
  positive factor moved through a sum, and a sum over `Fin (m * n)` cut into `m` sums over `Fin n`.
-/
module

public import Idealize.ShloMosaic.PureOps.Ideal
public import Idealize.ShloMosaic.Lib.Pointwise
public import Mathlib.Data.EReal.Operations
public import Mathlib.Algebra.BigOperators.Fin

@[expose] public section

noncomputable section

namespace Cert.Attention

open Idealize.ShloMosaic

/-- The factor the scores are scaled by: one eighth, the reciprocal root of the head width 64. -/
abbrev eighth : EReal := Ideal.ofBits .f32 0x3E000000#32

/-- What a maximum starts from. -/
abbrev least : EReal := Ideal.ofBits .f32 0xFF800000#32

theorem eighth_eq : eighth = (((1 : ℝ) / 8 : ℝ) : EReal) := by
  unfold eighth
  simp [Ideal.ofBits, Ideal.ieee, -EReal.coe_mul]; norm_num

theorem eighth_nonneg : 0 ≤ eighth := by rw [eighth_eq]; exact EReal.coe_nonneg.mpr (by norm_num)
theorem eighth_ne_top : eighth ≠ ⊤ := by rw [eighth_eq]; exact EReal.coe_ne_top _

/-- A finite factor that is not negative moves out of a sum of extended reals. -/
theorem factor_sum {ι : Type} (s : Finset ι) (f : ι → EReal) {c : EReal} (h0 : 0 ≤ c) (ht : c ≠ ⊤) :
    ∑ e ∈ s, c * f e = c * ∑ e ∈ s, f e := by
  classical
  induction s using Finset.induction_on with
  | empty => simp
  | insert a s ha ih => rw [Finset.sum_insert ha, Finset.sum_insert ha, ih, EReal.left_distrib_of_nonneg_of_ne_top h0 ht]

/-- One score: a query row against a key row, scaled. -/
def score (q k : Fin 64 → EReal) : EReal := (∑ e, q e * k e) * eighth

/-- The query may be scaled first. -/
theorem score_eq (q k : Fin 64 → EReal) : ∑ e, q e * eighth * k e = score q k := by
  unfold score
  rw [mul_comm, ← factor_sum _ _ eighth_nonneg eighth_ne_top]
  exact Finset.sum_congr rfl fun e _ => by rw [mul_right_comm, mul_comm]

/-- A row's largest score. -/
def top (s : Fin 128 → EReal) : EReal := (Finset.univ : Finset (Fin 128)).fold max least s

/-- Taking the maximum with the starting value once more changes nothing. -/
theorem max_least_top (s : Fin 128 → EReal) : max least (top s) = top s :=
  max_eq_right ((Finset.le_fold_max _).mpr (Or.inl le_rfl))

/-- One output of a row of attention: the values `w` averaged with the weights the scores `s` give. -/
def soft (s w : Fin 128 → EReal) : EReal :=
  Ideal.div (∑ j, Ideal.exp (s j - top s) * w j) (∑ j, Ideal.exp (s j - top s))

/-- A sum over `Fin N`, `N = m * n`, is `m` sums over `Fin n`. -/
theorem sum_cut {N : ℕ} (m n : ℕ) (h : N = m * n) (f : Fin N → EReal) :
    ∑ t, f t = ∑ a : Fin m, ∑ b : Fin n, f ⟨a.val * n + b.val, by
      have ha := a.isLt; have hb := b.isLt
      calc a.val * n + b.val < a.val * n + n := by omega
        _ = (a.val + 1) * n := by ring
        _ ≤ N := h ▸ Nat.mul_le_mul_right n ha⟩ := by
  subst h
  rw [← Equiv.sum_comp finProdFinEquiv, Fintype.sum_prod_type]
  refine Finset.sum_congr rfl fun a _ => Finset.sum_congr rfl fun b _ => congrArg f (Fin.ext ?_)
  show b.val + n * a.val = a.val * n + b.val
  ring

end Cert.Attention

end
-- ==== Proof.Ideal.Attend.lean ====
/-
  One device's attention block at an index. Sixteen heads (two batches of eight) are computed by the same lines on
  different blocks; the facts below are stated of any one of them.
-/
module

public import proofs.«01_k».proof.Proof.Ideal.Contents
public import proofs.«01_k».proof.Proof.Ideal.Softmax

@[expose] public section

noncomputable section

namespace Cert.KernelIdeal.AllReduce

open Idealize.ShloMosaic Idealize.ShloMosaic.TcCoe
open Cert.KernelIdeal Cert.KernelIdeal.Gen
open Cert.Attention

section Steps

variable {F : FTy → Type} [FloatOps F]

/-- One head's block of the projected queries, scaled. -/
def scaledQ (off : Fin 2 → ℕ) (hs : S256x512.Slices off S128x64) (q : FVec F S256x512 .f32) : FVec F S128x64 .bf16 :=
  truncf .bf16 (mulf (extractStridedSlice S128x64 off q hs) (broadcast S128x64 (Scalar.ofBits .f32 0x3E000000#32))) bitsLt_bf16_f32

/-- A loaded key or value block without its leading dimension of one. -/
def unlead (w : Vec F S1x128x64 .bf16) : FVec F S128x64 .bf16 := shapeCast S128x64 w shapeCasts_S1x128x64_S128x64

/-- The weights of one head before they are divided by their sums. -/
def weights (q k : FVec F S128x64 .bf16) : FVec F S128x128 .f32 :=
  let s : FVec F S128x128 .f32 := matmul dot_S128x64_S128x64_S128x128_1_1_0_0_n_n none q k (constant S128x128 .f32 0x00000000#32)
  exp (subf s (broadcastTo S128x128 (shapeCast S128x1
    (multiReduction .maximumf [1] S128 s 0xFF800000#32 reduces_S128x128_S128 (.inl rfl) rfl) shapeCasts_S128_S128x1) broadcasts_S128x1_S128x128))

/-- One head's output. -/
def attend (q k v : FVec F S128x64 .bf16) : FVec F S128x64 .f32 :=
  divf (matmul dot_S128x128_S128x64_S128x64_1_0_0_1_n_n none (truncf .bf16 (weights q k) bitsLt_bf16_f32) v (constant S128x64 .f32 0x00000000#32))
    (broadcastTo S128x64 (shapeCast S128x1
      (multiReduction .add [1] S128 (weights q k) 0x00000000#32 reduces_S128x128_S128 (.inl rfl) rfl) shapeCasts_S128_S128x1) broadcasts_S128x1_S128x64)

/-- Where a head's queries lie in the projected array. -/
theorem slices_head (b : Fin 2) (h : Fin 8) : S256x512.Slices ![b.val * 128, h.val * 64] S128x64 := by
  revert b h; decide

/-- Where a head's keys and values lie in their staging buffers. -/
theorem inb_head (b : Fin 2) (h : Fin 8) :
    ∀ a, (![b.val * 8 + h.val, 0, 0] : Fin 3 → ℕ) a + S1x128x64.size a ≤ S16x128x64.size a := by
  revert b h; decide

/-- Head `h` of batch `b` on a device whose five staged arguments are these. -/
def head (x : Vec F S256x512 .bf16) (wq : Vec F S512x512 .bf16) (k v : Vec F S16x128x64 .bf16) (b : Fin 2) (h : Fin 8) :
    FVec F S128x64 .f32 :=
  attend (scaledQ ![b.val * 128, h.val * 64] (slices_head b h) (k0_pay2 x wq))
    (unlead (kRow k (b.val * 8 + h.val) (inb_head b h))) (unlead (vRow v (b.val * 8 + h.val) (inb_head b h)))

/-- Eight heads side by side. -/
def beside (a : Fin 8 → FVec F S128x64 .f32) : FVec F S128x512 .f32 :=
  concatenate S128x512 1 [⟨S128x64, a 0⟩, ⟨S128x64, a 1⟩, ⟨S128x64, a 2⟩, ⟨S128x64, a 3⟩, ⟨S128x64, a 4⟩, ⟨S128x64, a 5⟩, ⟨S128x64, a 6⟩, ⟨S128x64, a 7⟩] concatenates_S128x64_S128x64_S128x64_S128x64_S128x64_S128x64_S128x64_S128x64_S128x512_d1

/-- The two batches one above the other. -/
def above (a0 a1 : FVec F S128x512 .f32) : FVec F S256x512 .f32 :=
  concatenate S256x512 0 [⟨S128x512, a0⟩, ⟨S128x512, a1⟩] concatenates_S128x512_S128x512_S256x512_d0

/-- All heads' outputs through the output matrix. -/
def project (a : FVec F S256x512 .f32) (wo : Vec F S512x512 .bf16) : FVec F S256x512 .bf16 :=
  truncf .bf16 (matmul dot_S256x512_S512x512_S256x512_1_0_0_1_n_n none (truncf .bf16 a bitsLt_bf16_f32)
    (shapeCast S512x512 wo shapeCasts_S512x512_S512x512) (constant S256x512 .f32 0x00000000#32)) bitsLt_bf16_f32

/-- The block is the sixteen heads, put together and projected. -/
theorem core_eq (x : Vec F S256x512 .bf16) (wq wo : Vec F S512x512 .bf16) (k v : Vec F S16x128x64 .bf16) :
    core x wq wo k v = project (above (beside (head x wq k v 0)) (beside (head x wq k v 1))) wo := rfl

end Steps

set_option maxRecDepth 16384

/-- The projected queries. -/
theorem queries_apply (x : Vec Ideal S256x512 .bf16) (wq : Vec Ideal S512x512 .bf16) (r : Fin 256) (t : Fin 512) :
    k0_pay2 x wq (ix2 r t) = ∑ l, x (ix2 r l) * wq (ix2 l t) := by
  pointwise [k0_pay2]

theorem scaledQ_apply (b : Fin 2) (h : Fin 8) (q : FVec Ideal S256x512 .f32) (i : Fin 128) (e : Fin 64) :
    scaledQ ![b.val * 128, h.val * 64] (slices_head b h) q (ix2 i e)
      = q (ix2 ⟨b.val * 128 + i.val, by omega⟩ ⟨h.val * 64 + e.val, by omega⟩) * eighth := by
  pointwise [scaledQ]

theorem kRow_apply (k : Vec Ideal S16x128x64 .bf16) (b : Fin 2) (h : Fin 8) (j : Fin 128) (e : Fin 64) :
    unlead (kRow k (b.val * 8 + h.val) (inb_head b h)) (ix2 j e) = k (ix3 ⟨b.val * 8 + h.val, by omega⟩ j e) := by
  pointwise [unlead]
  show k _ = k _
  congr 1
  funext a
  apply Fin.ext
  fin_cases a
  · show b.val * 8 + h.val + 1 * 0 = _; rfl
  · show 0 + 1 * j.val = j.val; omega
  · show 0 + 1 * e.val = e.val; omega

theorem vRow_apply (v : Vec Ideal S16x128x64 .bf16) (b : Fin 2) (h : Fin 8) (j : Fin 128) (e : Fin 64) :
    unlead (vRow v (b.val * 8 + h.val) (inb_head b h)) (ix2 j e) = v (ix3 ⟨b.val * 8 + h.val, by omega⟩ j e) :=
  kRow_apply v b h j e

/-- One head's output at an index. -/
theorem attend_apply (q k v : FVec Ideal S128x64 .bf16) (i : Fin 128) (d : Fin 64) :
    attend q k v (ix2 i d) = soft (fun j => ∑ e, q (ix2 i e) * k (ix2 j e)) (fun j => v (ix2 j d)) := by
  pointwise [attend, weights]
  rfl

/-- The same of a device's head, in its staged arguments. -/
theorem head_apply (x : Vec Ideal S256x512 .bf16) (wq : Vec Ideal S512x512 .bf16) (k v : Vec Ideal S16x128x64 .bf16)
    (b : Fin 2) (h : Fin 8) (i : Fin 128) (d : Fin 64) :
    head x wq k v b h (ix2 i d)
      = soft (fun j => score (fun e => ∑ l, x (ix2 ⟨b.val * 128 + i.val, by omega⟩ l) * wq (ix2 l ⟨h.val * 64 + e.val, by omega⟩))
          (fun e => k (ix3 ⟨b.val * 8 + h.val, by omega⟩ j e))) (fun j => v (ix3 ⟨b.val * 8 + h.val, by omega⟩ j d)) := by
  unfold head
  rw [attend_apply]
  simp only [scaledQ_apply, queries_apply, kRow_apply, vRow_apply, score_eq]

/-- A column of eight heads side by side. -/
theorem beside_apply (a : Fin 8 → FVec Ideal S128x64 .f32) (i : Fin 128) (h : Fin 8) (d : Fin 64) :
    beside a (ix2 i ⟨h.val * 64 + d.val, by omega⟩) = a h (ix2 i d) := by
  fin_cases h
  all_goals pointwise [beside]
  all_goals
    repeat rw [dif_neg (by omega)]
    try rw [dif_pos (by omega)]
    congr 2
    apply Fin.ext
    dsimp only
    omega

theorem above_apply (a : Fin 2 → FVec Ideal S128x512 .f32) (b : Fin 2) (i : Fin 128) (t : Fin 512) :
    above (a 0) (a 1) (ix2 ⟨b.val * 128 + i.val, by omega⟩ t) = a b (ix2 i t) := by
  fin_cases b
  all_goals pointwise [above]

/-- The block at an index: a sum over the device's heads and their columns. -/
theorem core_apply (x : Vec Ideal S256x512 .bf16) (wq wo : Vec Ideal S512x512 .bf16) (k v : Vec Ideal S16x128x64 .bf16)
    (b : Fin 2) (i : Fin 128) (n : Fin 512) :
    core x wq wo k v (ix2 ⟨b.val * 128 + i.val, by omega⟩ n)
      = ∑ h : Fin 8, ∑ d : Fin 64, head x wq k v b h (ix2 i d) * wo (ix2 ⟨h.val * 64 + d.val, by omega⟩ n) := by
  rw [core_eq]
  pointwise [project]
  rw [sum_cut 8 64 rfl]
  refine Finset.sum_congr rfl fun h _ => Finset.sum_congr rfl fun d _ => ?_
  rw [above_apply (fun b => beside (head x wq k v b)), beside_apply]

end Cert.KernelIdeal.AllReduce

end
-- ==== Proof.Ideal.Reference.lean ====
/-
  The reference's result at an index: each head's rows of attention, through the output matrix.
-/
module

public import proofs.«01_k».proof.Proof.Gen.ReferenceIdeal.Run
public import proofs.«01_k».proof.Proof.Ideal.Softmax

@[expose] public section

noncomputable section

namespace Cert.ReferenceIdeal.Value

open Idealize.ShloMosaic Idealize.ShloMosaic.TcCoe
open Cert.ReferenceIdeal Cert.ReferenceIdeal.Gen
open Cert.Attention

section Steps

variable {F : FTy → Type} [FloatOps F]

/-- The scaled scores of every head. -/
def refS (x : Vec F S2x128x512 .bf16) (wq : Vec F S512x4096 .bf16) (k : Vec F S2x128x64x64 .bf16) : FVec F S2x64x128x128 .f32 :=
  mulf (Host.dotGeneral dot_S2x128x64x64_S2x128x64x64_S2x64x128x128_3_3_1_1_02_02 none
    (shapeCast S2x128x64x64 (Host.dotGeneral dot_S2x128x512_S512x4096_S2x128x4096_2_0_01_1_n_n none
        (extf .f32 x bitsLt_bf16_f32) (extf .f32 wq bitsLt_bf16_f32)) shapeCasts_S2x128x4096_S2x128x64x64)
      (extf .f32 k bitsLt_bf16_f32))
    (broadcastInDim S2x64x128x128 ![] bcast_S_S2x64x128x128 (constant S_ .f32 0x3E000000#32))

/-- The largest score of each row. -/
def refM (s : FVec F S2x64x128x128 .f32) : FVec F S2x64x128x1 .f32 :=
  maximumf (broadcastInDim S2x64x128x1 ![] bcast_S_S2x64x128x1 (constant S_ .f32 0xFF800000#32))
    (broadcastInDim S2x64x128x1 ![0, 1, 2] bcast_S2x64x128_S2x64x128x1_0_1_2
      (Host.reduce FloatOps.maximumf s (constant S_ .f32 0xFF800000#32) reducesTo_S2x64x128x128_S2x64x128_d3 h_S_))

/-- The weights before they are divided by their sum. -/
def refP (s : FVec F S2x64x128x128 .f32) : FVec F S2x64x128x128 .f32 :=
  Host.exp (subf s (broadcastInDim S2x64x128x128 ![0, 1, 2, 3] bcast_S2x64x128x1_S2x64x128x128_0_1_2_3 (refM s)))

/-- The factor that rescales what came before the one chunk, which is zero. -/
def refAlpha (s : FVec F S2x64x128x128 .f32) : FVec F S2x64x128x1 .f32 :=
  Host.exp (subf (broadcastInDim S2x64x128x1 ![] bcast_S_S2x64x128x1 (constant S_ .f32 0xFF800000#32)) (refM s))

/-- The sums of the weights. -/
def refL (s : FVec F S2x64x128x128 .f32) : FVec F S2x64x128x1 .f32 :=
  addf (mulf (broadcastInDim S2x64x128x1 ![] bcast_S_S2x64x128x1 (constant S_ .f32 0x00000000#32)) (refAlpha s))
    (broadcastInDim S2x64x128x1 ![0, 1, 2] bcast_S2x64x128_S2x64x128x1_0_1_2
      (Host.reduceAdd (refP s) (constant S_ .f32 0x00000000#32) reducesTo_S2x64x128x128_S2x64x128_d3 h_S_))

/-- The heads' outputs. -/
def refA (s : FVec F S2x64x128x128 .f32) (v : Vec F S2x128x64x64 .bf16) : FVec F S2x128x64x64 .f32 :=
  Host.divf (addf (mulf (broadcastInDim S2x128x64x64 ![] bcast_S_S2x128x64x64 (constant S_ .f32 0x00000000#32))
      (broadcastInDim S2x128x64x64 ![0, 1, 2, 3] bcast_S2x128x64x1_S2x128x64x64_0_1_2_3
        (transpose S2x128x64x1 [0, 2, 1, 3] (refAlpha s) transposes_S2x64x128x1_S2x128x64x1_0_2_1_3)))
      (transpose S2x128x64x64 [0, 3, 1, 2] (Host.dotGeneral dot_S2x128x64x64_S2x64x128x128_S2x64x64x128_1_3_3_2_02_01 none
        (extf .f32 v bitsLt_bf16_f32) (refP s)) transposes_S2x64x64x128_S2x128x64x64_0_3_1_2))
    (broadcastInDim S2x128x64x64 ![0, 1, 2, 3] bcast_S2x128x64x1_S2x128x64x64_0_1_2_3
      (transpose S2x128x64x1 [0, 2, 1, 3] (refL s) transposes_S2x64x128x1_S2x128x64x1_0_2_1_3))

/-- The result: the heads' outputs through the output matrix. -/
def refO (a : FVec F S2x128x64x64 .f32) (wo : Vec F S4096x512 .bf16) : FVec F S2x128x512 .bf16 :=
  truncf .bf16 (Host.dotGeneral dot_S2x128x4096_S4096x512_S2x128x512_2_0_01_1_n_n none
    (shapeCast S2x128x4096 a shapeCasts_S2x128x64x64_S2x128x4096) (extf .f32 wo bitsLt_bf16_f32)) bitsLt_bf16_f32

/-- The reference's result is those steps, one after the other. -/
theorem res_eq (m : (ℓ : Loc nD τ sig) → Buf (Elt F) ℓ) (c : Dev nD) :
    res_out0 m c = refO (refA (refS (m (c.tc.loc main_arg0)) (m (c.tc.loc main_arg1)) (m (c.tc.loc main_arg2)))
      (m (c.tc.loc main_arg3))) (m (c.tc.loc main_arg4)) := rfl

end Steps

set_option maxRecDepth 16384

/-- A score. -/
theorem refS_apply (x : Vec Ideal S2x128x512 .bf16) (wq : Vec Ideal S512x4096 .bf16) (k : Vec Ideal S2x128x64x64 .bf16)
    (b : Fin 2) (H : Fin 64) (i j : Fin 128) :
    refS x wq k (ix4 b H i j) = score (fun e => ∑ l, x (ix3 b i l) * wq (ix2 l ⟨H.val * 64 + e.val, by omega⟩))
      (fun e => k (ix4 b j H e)) := by
  pointwise [refS]
  rfl

/-- A row's largest score, as a fold along the row. -/
theorem reduce_row (s : FVec Ideal S2x64x128x128 .f32) (b : Fin 2) (H : Fin 64) (i : Fin 128) :
    Host.reduce (α := Ideal .f32) FloatOps.maximumf s (constant S_ .f32 0xFF800000#32) reducesTo_S2x64x128x128_S2x64x128_d3 h_S_
      (ix3 b H i) = top (fun j => s (ix4 b H i j)) :=
  (Host.reduce_eq_fold _ s _ _ _ _).trans (Shape.ReducesTo.fold_fiber_r4_a3 _ _ _ _ _)

theorem refM_apply (s : FVec Ideal S2x64x128x128 .f32) (b : Fin 2) (H : Fin 64) (i : Fin 128) :
    refM s (ix4 b H i 0) = top (fun j => s (ix4 b H i j)) := by
  unfold refM
  generalize hr : Host.reduce (α := Ideal .f32) FloatOps.maximumf s _ _ _ = R
  pointwise
  rw [← hr, reduce_row]
  exact max_least_top _

/-- A weight. -/
theorem refP_apply (s : FVec Ideal S2x64x128x128 .f32) (b : Fin 2) (H : Fin 64) (i j : Fin 128) :
    refP s (ix4 b H i j) = Ideal.exp (s (ix4 b H i j) - top (fun j => s (ix4 b H i j))) := by
  rw [← refM_apply]
  pointwise [refP]

theorem refL_apply (s : FVec Ideal S2x64x128x128 .f32) (b : Fin 2) (H : Fin 64) (i : Fin 128) :
    refL s (ix4 b H i 0) = ∑ j, Ideal.exp (s (ix4 b H i j) - top (fun j => s (ix4 b H i j))) := by
  pointwise [refL, refAlpha]
  rw [zero_mul, zero_add]
  exact Finset.sum_congr rfl fun j _ => refP_apply s b H i j

/-- A head's output. -/
theorem refA_apply (s : FVec Ideal S2x64x128x128 .f32) (v : Vec Ideal S2x128x64x64 .bf16) (b : Fin 2) (H d : Fin 64) (i : Fin 128) :
    refA s v (ix4 b i H d) = soft (fun j => s (ix4 b H i j)) (fun j => v (ix4 b j H d)) := by
  unfold soft
  rw [← refL_apply]
  pointwise [refA, refAlpha]
  rw [zero_mul, zero_add]
  refine congrArg (Ideal.div · _) (Finset.sum_congr rfl fun j _ => ?_)
  rw [refP_apply, mul_comm]

/-- The result: a sum over heads and their columns. -/
theorem refO_apply (a : FVec Ideal S2x128x64x64 .f32) (wo : Vec Ideal S4096x512 .bf16) (b : Fin 2) (i : Fin 128) (n : Fin 512) :
    refO a wo (ix3 b i n) = ∑ H : Fin 64, ∑ d : Fin 64, a (ix4 b i H d) * wo (ix2 ⟨H.val * 64 + d.val, by omega⟩ n) := by
  pointwise [refO]
  rw [sum_cut 64 64 rfl]
  refine Finset.sum_congr rfl fun H _ => Finset.sum_congr rfl fun d _ => ?_
  congr 3
  · exact Fin.ext (by show (H.val * 64 + d.val) / 64 = H.val; omega)
  · exact Fin.ext (by show (H.val * 64 + d.val) % 64 = d.val; omega)

end Cert.ReferenceIdeal.Value

end
-- ==== Proof.Ideal.Equation.lean ====
/-
  The equation of the algebraic claim: on every device the kernel's result is the reference's, when the devices' arguments
  are the blocks of the reference's.
-/
module

public import proofs.«01_k».proof.Proof.Ideal.Attend
public import proofs.«01_k».proof.Proof.Ideal.Launch
public import proofs.«01_k».proof.Proof.Ideal.Reference
public import Idealize.ShloMosaic.Lib.LayoutAt

@[expose] public section

noncomputable section

namespace Cert.KernelIdeal.AllReduce

open Idealize.ShloMosaic Idealize.ShloMosaic.TcCoe
open Cert.KernelIdeal Cert.KernelIdeal.Gen
open Cert.Attention

set_option maxRecDepth 16384

/-! ## The staged arguments at an index -/

section Staged

variable (m : (ℓ : Loc nD τ sig) → Buf (Elt Ideal) ℓ)

theorem xA_eq (c : Dev nD) : xA m c = shapeCast S256x512 (m ((c.tc : Thread nD τ).loc main_arg0)) shapeCasts_S2x128x512_S256x512 := by
  unfold xA
  simp only [V, V0, hostOps0, List.flatten_cons, List.flatten_nil, List.append_nil]
  after_results_simp <;> rfl

theorem kA_eq (c : Dev nD) : kA m c = shapeCast S16x128x64 (transpose S2x8x128x64 [0, 2, 1, 3] (m ((c.tc : Thread nD τ).loc main_arg2))
    transposes_S2x128x8x64_S2x8x128x64_0_2_1_3) shapeCasts_S2x8x128x64_S16x128x64 := by
  unfold kA
  simp only [V, V0, hostOps0, List.flatten_cons, List.flatten_nil, List.append_nil]
  after_results_simp <;> rfl

theorem vA_eq (c : Dev nD) : vA m c = shapeCast S16x128x64 (transpose S2x8x128x64 [0, 2, 1, 3] (m ((c.tc : Thread nD τ).loc main_arg3))
    transposes_S2x128x8x64_S2x8x128x64_0_2_1_3) shapeCasts_S2x8x128x64_S16x128x64 := by
  unfold vA
  simp only [V, V0, hostOps0, List.flatten_cons, List.flatten_nil, List.append_nil]
  after_results_simp <;> rfl

end Staged

/-- The activations, two batches of rows joined. -/
theorem joined_apply (x : Vec Ideal S2x128x512 .bf16) (b : Fin 2) (i : Fin 128) (l : Fin 512) :
    shapeCast S256x512 x shapeCasts_S2x128x512_S256x512 (ix2 ⟨b.val * 128 + i.val, by omega⟩ l) = x (ix3 b i l) := by
  pointwise

/-- A key or value array, its heads before its rows. -/
theorem headed_apply (k : Vec Ideal S2x128x8x64 .bf16) (b : Fin 2) (h : Fin 8) (j : Fin 128) (e : Fin 64) :
    shapeCast S16x128x64 (transpose S2x8x128x64 [0, 2, 1, 3] k transposes_S2x128x8x64_S2x8x128x64_0_2_1_3) shapeCasts_S2x8x128x64_S16x128x64
      (ix3 ⟨b.val * 8 + h.val, by omega⟩ j e) = k (ix4 b j h e) := by
  pointwise

/-! ## The all-reduce adds up all the devices' blocks -/

section Sum

variable (m : (ℓ : Loc nD τ sig) → Buf (Elt Ideal) ℓ)

/-- A loaded block, behind its leading dimension of one. -/
theorem lift_apply (w : Vec Ideal S256x512 .bf16) (r : Fin 256) (n : Fin 512) : lift w (ix3 0 r n) = w (ix2 r n) :=
  congrArg w (eq_ix2 _)

theorem acc1_apply (c : Dev nD) (r : Fin 256) (n : Fin 512) :
    acc1 m c (ix2 r n) = acc0 m c (ix2 r n) + acc0 m (peer 0 c) (ix2 r n) := by
  pointwise [acc1, k0_pay35]
  rw [lift_apply]

theorem acc2_apply (c : Dev nD) (r : Fin 256) (n : Fin 512) :
    acc2 m c (ix2 r n) = acc1 m c (ix2 r n) + acc1 m (peer 1 c) (ix2 r n) := by
  pointwise [acc2, k0_pay37, k0_pay36]
  rw [lift_apply]

theorem acc3_apply (c : Dev nD) (r : Fin 256) (n : Fin 512) :
    acc3 m c (ix2 r n) = acc2 m c (ix2 r n) + acc2 m (peer 2 c) (ix2 r n) := by
  pointwise [acc3, k0_pay1, k0_pay38]
  rw [lift_apply]

/-- The partners, tabulated. -/
theorem partners : peer 0 = (![1, 0, 3, 2, 5, 4, 7, 6] : Fin 8 → Fin 8) ∧ peer 1 = (![3, 2, 1, 0, 7, 6, 5, 4] : Fin 8 → Fin 8)
    ∧ peer 2 = (![4, 5, 6, 7, 0, 1, 2, 3] : Fin 8 → Fin 8) := by
  refine ⟨funext ?_, funext ?_, funext ?_⟩ <;> decide

/-- Three rounds of swaps reach every device once. -/
theorem butterfly (g : Fin 8 → EReal) (p q s : Fin 8 → Fin 8) (hp : p = ![1, 0, 3, 2, 5, 4, 7, 6]) (hq : q = ![3, 2, 1, 0, 7, 6, 5, 4])
    (hs : s = ![4, 5, 6, 7, 0, 1, 2, 3]) (c : Fin 8) :
    ((g c + g (p c)) + (g (q c) + g (p (q c)))) + ((g (s c) + g (p (s c))) + (g (q (s c)) + g (p (q (s c))))) = ∑ d, g d := by
  subst hp hq hs
  rw [Fin.sum_univ_eight]
  obtain rfl | rfl | rfl | rfl | rfl | rfl | rfl | rfl :
    c = 0 ∨ c = 1 ∨ c = 2 ∨ c = 3 ∨ c = 4 ∨ c = 5 ∨ c = 6 ∨ c = 7 := by omega
  all_goals simp
  all_goals ac_rfl

theorem acc3_sum (c : Dev nD) (r : Fin 256) (n : Fin 512) : acc3 m c (ix2 r n) = ∑ d : Fin 8, acc0 m d (ix2 r n) := by
  rw [acc3_apply, acc2_apply, acc2_apply, acc1_apply, acc1_apply, acc1_apply, acc1_apply]
  exact butterfly (fun d => acc0 m d (ix2 r n)) _ _ _ partners.1 partners.2.1 partners.2.2 c

end Sum

/-! ## Blocks of the reference's arguments -/

theorem block_wq (X : (⟨2, ![512, 4096]⟩ : Shape).Idx → EReal) (c : Fin 8) (l t : Fin 512) :
    Layout.block ⟨2, ![512, 512]⟩ ⟨2, ![512, 4096]⟩ 1 8 c X (by decide) (ix2 l t) = X (ix2 l ⟨c.val * 512 + t.val, by omega⟩) := by
  shard_ext

theorem block_kv (X : (⟨4, ![2, 128, 64, 64]⟩ : Shape).Idx → EReal) (c : Fin 8) (b : Fin 2) (j : Fin 128) (h : Fin 8) (e : Fin 64) :
    Layout.block ⟨4, ![2, 128, 8, 64]⟩ ⟨4, ![2, 128, 64, 64]⟩ 2 8 c X (by decide) (ix4 b j h e) = X (ix4 b j ⟨c.val * 8 + h.val, by omega⟩ e) := by
  shard_ext

theorem block_wo (X : (⟨2, ![4096, 512]⟩ : Shape).Idx → EReal) (c : Fin 8) (t n : Fin 512) :
    Layout.block ⟨2, ![512, 512]⟩ ⟨2, ![4096, 512]⟩ 0 8 c X (by decide) (ix2 t n) = X (ix2 ⟨c.val * 512 + t.val, by omega⟩ n) := by
  shard_ext

/-! ## The equation -/

/-- The kernel's result on device `c`, at an index: a sum over devices, their heads, and the heads' columns. -/
theorem result_apply (m : (ℓ : Loc nD τ sig) → Buf (Elt Ideal) ℓ) (c : Dev nD) (b : Fin 2) (i : Fin 128) (n : Fin 512) :
    result m c (ix3 b i n) = ∑ d : Fin 8, acc0 m d (ix2 ⟨b.val * 128 + i.val, by omega⟩ n) := by
  rw [← acc3_sum m c]
  unfold result
  pointwise

/-- What the kernel leaves on every device is what the reference computes. -/
theorem result_eq (m : (ℓ : Loc nD τ sig) → Buf (Elt Ideal) ℓ)
    (x : Vec Ideal S2x128x512 .bf16) (wq : (⟨2, ![512, 4096]⟩ : Shape).Idx → EReal) (k v : (⟨4, ![2, 128, 64, 64]⟩ : Shape).Idx → EReal)
    (wo : (⟨2, ![4096, 512]⟩ : Shape).Idx → EReal)
    (hx : ∀ c : Dev nD, m ((c.tc : Thread nD τ).loc main_arg0) = x)
    (hwq : ∀ c : Dev nD, m ((c.tc : Thread nD τ).loc main_arg1) = Layout.block ⟨2, ![512, 512]⟩ ⟨2, ![512, 4096]⟩ 1 8 c wq)
    (hk : ∀ c : Dev nD, m ((c.tc : Thread nD τ).loc main_arg2) = Layout.block ⟨4, ![2, 128, 8, 64]⟩ ⟨4, ![2, 128, 64, 64]⟩ 2 8 c k)
    (hv : ∀ c : Dev nD, m ((c.tc : Thread nD τ).loc main_arg3) = Layout.block ⟨4, ![2, 128, 8, 64]⟩ ⟨4, ![2, 128, 64, 64]⟩ 2 8 c v)
    (hwo : ∀ c : Dev nD, m ((c.tc : Thread nD τ).loc main_arg4) = Layout.block ⟨2, ![512, 512]⟩ ⟨2, ![4096, 512]⟩ 0 8 c wo)
    (c : Dev nD) :
    result m c = Cert.ReferenceIdeal.Value.refO (Cert.ReferenceIdeal.Value.refA (Cert.ReferenceIdeal.Value.refS x wq k) v) wo := by
  funext z
  obtain ⟨b, i, n, rfl⟩ : ∃ (b : Fin 2) (i : Fin 128) (n : Fin 512), z = ix3 b i n := ⟨z 0, z 1, z 2, eq_ix3 z⟩
  rw [result_apply, Cert.ReferenceIdeal.Value.refO_apply, sum_cut 8 8 rfl]
  refine Finset.sum_congr rfl fun d _ => ?_
  unfold acc0
  rw [core_apply]
  refine Finset.sum_congr rfl fun h _ => Finset.sum_congr rfl fun e _ => ?_
  have ex : ∀ l, xA m d (ix2 ⟨b.val * 128 + i.val, by omega⟩ l) = x (ix3 b i l) := fun l => by
    rw [xA_eq, hx, joined_apply]
  have ek : ∀ j e, kA m d (ix3 ⟨b.val * 8 + h.val, by omega⟩ j e) = k (ix4 b j ⟨d.val * 8 + h.val, by omega⟩ e) := fun j e => by
    rw [kA_eq, hk, headed_apply, block_kv]
  have ev : ∀ j e, vA m d (ix3 ⟨b.val * 8 + h.val, by omega⟩ j e) = v (ix4 b j ⟨d.val * 8 + h.val, by omega⟩ e) := fun j e => by
    rw [vA_eq, hv, headed_apply, block_kv]
  have eq : ∀ l t, wqA m d (ix2 l t) = wq (ix2 l ⟨d.val * 512 + t.val, by omega⟩) := fun l t => by
    unfold wqA
    rw [V_main_arg1, hwq, block_wq]
  have eo : ∀ t n, woA m d (ix2 t n) = wo (ix2 ⟨d.val * 512 + t.val, by omega⟩ n) := fun t n => by
    unfold woA
    rw [V_main_arg4, hwo, block_wo]
  rw [head_apply, Cert.ReferenceIdeal.Value.refA_apply]
  simp only [Cert.ReferenceIdeal.Value.refS_apply, ex, ek, ev, eq, eo]
  have hcol : ∀ t : Fin 64, d.val * 512 + (h.val * 64 + t.val) = (d.val * 8 + h.val) * 64 + t.val := fun t => by ring
  simp only [hcol]

end Cert.KernelIdeal.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Run
public import proofs.«01_k».proof.Proof.Ideal.Equation
public import proofs.«01_k».proof.Proof.Float.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as it stands runs to its end, leaves its arguments alone, and every semaphore at zero. -/
theorem quiescent_kernel : quiescent_Kernel (hKernel := Cert.Kernel.Gen.facts) := fun m g _ =>
  (θ_run _ _ _).mono (fun _ h => ⟨fun c => (h.1 c).1, h.2⟩) (Cert.Kernel.AllReduce.run_main m g)

/-- So does the idealized kernel. -/
theorem quiescent_kernelIdeal : quiescent_KernelIdeal (hKernelIdeal := Cert.KernelIdeal.Gen.facts) := fun m g _ =>
  (θ_run _ _ _).mono (fun _ h => ⟨fun c => (h.1 c).1, h.2⟩) (Cert.KernelIdeal.AllReduce.run_main m g)

/-- So does the reference, which has no semaphores. -/
theorem quiescent_referenceIdeal : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The idealized kernel's result, on every device, is the reference's. -/
theorem algebraic : algebraic_KernelIdeal_ReferenceIdeal (hKernelIdeal := Cert.KernelIdeal.Gen.facts)
    (hReferenceIdeal := Cert.ReferenceIdeal.Gen.facts) := fun m g m' g' _ h =>
  ⟨Cert.ReferenceIdeal.Value.res_out0 m' 0,
    (θ_run _ _ _).mono (fun _ hr c => ⟨(hr.1 c).2.trans ((Cert.KernelIdeal.AllReduce.result_eq m _ _ _ _ _
        (fun c => (h c).1) (fun c => (h c).2.1) (fun c => (h c).2.2.1) (fun c => (h c).2.2.2.1) (fun c => (h c).2.2.2.2) c).trans
        (Cert.ReferenceIdeal.Value.res_eq m' 0).symm), (hr.1 c).1⟩) (Cert.KernelIdeal.AllReduce.run_main m g),
    (θ_run _ _ _).mono (fun _ hr => hr 0) (Cert.ReferenceIdeal.Value.run m' g')⟩

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
